-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_bounded_KernelIdeal [hPre_bounded_KernelIdeal : Cert.Pre_bounded_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_bounded_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_bounded_ReferenceIdeal [hPre_bounded_ReferenceIdeal : Cert.Pre_bounded_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_bounded_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_UnclippedIdeal (m : (ℓ : Loc Cert.UnclippedIdeal.nD Cert.UnclippedIdeal.τ Cert.UnclippedIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_bounded_KernelIdeal [hKernelIdeal : Cert.KernelIdeal.Facts] [hPre_bounded_KernelIdeal : Cert.Pre_bounded_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_bounded_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_bounded_ReferenceIdeal [hReferenceIdeal : Cert.ReferenceIdeal.Facts] [hPre_bounded_ReferenceIdeal : Cert.Pre_bounded_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_bounded_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_UnclippedIdeal [hUnclippedIdeal : Cert.UnclippedIdeal.Facts] : Prop :=
  ∀ (m : (ℓ : Loc Cert.UnclippedIdeal.nD Cert.UnclippedIdeal.τ Cert.UnclippedIdeal.sig) → Buf (Elt Ideal) ℓ) (g : Dev Cert.UnclippedIdeal.nD → PrngReg), Pre_UnclippedIdeal m →
    θ_run (Cert.UnclippedIdeal.defs (F := Ideal)) (onTc (τ := Cert.UnclippedIdeal.τ) (Cert.UnclippedIdeal.main (F := Ideal))) ⟨m, fun _ => 0, g⟩ (fun r => (∀ c : Dev Cert.UnclippedIdeal.nD,
      r.2.mem ((c.tc : Thread Cert.UnclippedIdeal.nD Cert.UnclippedIdeal.τ).loc Cert.UnclippedIdeal.main_arg0) = m ((c.tc : Thread Cert.UnclippedIdeal.nD Cert.UnclippedIdeal.τ).loc Cert.UnclippedIdeal.main_arg0)
      ∧ r.2.mem ((c.tc : Thread Cert.UnclippedIdeal.nD Cert.UnclippedIdeal.τ).loc Cert.UnclippedIdeal.main_arg1) = m ((c.tc : Thread Cert.UnclippedIdeal.nD Cert.UnclippedIdeal.τ).loc Cert.UnclippedIdeal.main_arg1))
      ∧ r.2.sem = fun _ => 0)

def preserves_Kernel_KernelIdeal : Prop :=
  True

def algebraic_KernelIdeal_ReferenceIdeal_pre_bounded_KernelIdeal [hKernelIdeal : Cert.KernelIdeal.Facts] [hReferenceIdeal : Cert.ReferenceIdeal.Facts] [hPre_bounded_KernelIdeal : Cert.Pre_bounded_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_bounded_KernelIdeal m →
    (∀ c : Dev Cert.KernelIdeal.nD,
      m ((c.tc : Thread Cert.KernelIdeal.nD Cert.KernelIdeal.τ).loc Cert.KernelIdeal.main_arg0) = Layout.block ⟨2, ![4096, 512]⟩ ⟨2, ![4096, 4096]⟩ 1 8 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![512, 2048]⟩ ⟨2, ![4096, 2048]⟩ 0 8 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v6) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_UnclippedIdeal [hKernelIdeal : Cert.KernelIdeal.Facts] [hUnclippedIdeal : Cert.UnclippedIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.UnclippedIdeal.nD Cert.UnclippedIdeal.τ Cert.UnclippedIdeal.sig) → Buf (Elt Ideal) ℓ) (g' : Dev Cert.UnclippedIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![4096, 512]⟩ ⟨2, ![4096, 4096]⟩ 1 8 c (m' (((0 : Dev Cert.UnclippedIdeal.nD).tc : Thread Cert.UnclippedIdeal.nD Cert.UnclippedIdeal.τ).loc Cert.UnclippedIdeal.main_arg0))
      ∧ m ((c.tc : Thread Cert.KernelIdeal.nD Cert.KernelIdeal.τ).loc Cert.KernelIdeal.main_arg1) = m' (((0 : Dev Cert.UnclippedIdeal.nD).tc : Thread Cert.UnclippedIdeal.nD Cert.UnclippedIdeal.τ).loc Cert.UnclippedIdeal.main_arg1)) →
    ∃ (v0 : Buf (Elt Ideal) (((0 : Dev Cert.UnclippedIdeal.nD).tc : Thread Cert.UnclippedIdeal.nD Cert.UnclippedIdeal.τ).loc Cert.UnclippedIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![512, 2048]⟩ ⟨2, ![4096, 2048]⟩ 0 8 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.UnclippedIdeal.defs (F := Ideal)) (onTc (τ := Cert.UnclippedIdeal.τ) (Cert.UnclippedIdeal.main (F := Ideal))) ⟨m', fun _ => 0, g'⟩ (fun r =>
          r.2.mem (((0 : Dev Cert.UnclippedIdeal.nD).tc : Thread Cert.UnclippedIdeal.nD Cert.UnclippedIdeal.τ).loc Cert.UnclippedIdeal.main_v5) = v0
          ∧ r.2.mem (((0 : Dev Cert.UnclippedIdeal.nD).tc : Thread Cert.UnclippedIdeal.nD Cert.UnclippedIdeal.τ).loc Cert.UnclippedIdeal.main_arg0) = m' (((0 : Dev Cert.UnclippedIdeal.nD).tc : Thread Cert.UnclippedIdeal.nD Cert.UnclippedIdeal.τ).loc Cert.UnclippedIdeal.main_arg0)
          ∧ r.2.mem (((0 : Dev Cert.UnclippedIdeal.nD).tc : Thread Cert.UnclippedIdeal.nD Cert.UnclippedIdeal.τ).loc Cert.UnclippedIdeal.main_arg1) = m' (((0 : Dev Cert.UnclippedIdeal.nD).tc : Thread Cert.UnclippedIdeal.nD Cert.UnclippedIdeal.τ).loc Cert.UnclippedIdeal.main_arg1))

def Claim : Prop :=
  ∃ (hKernel : Cert.Kernel.Facts) (hKernelIdeal : Cert.KernelIdeal.Facts) (hReferenceIdeal : Cert.ReferenceIdeal.Facts) (hUnclippedIdeal : Cert.UnclippedIdeal.Facts) (hPre_bounded_KernelIdeal : Cert.Pre_bounded_KernelIdeal.Facts) (hPre_bounded_ReferenceIdeal : Cert.Pre_bounded_ReferenceIdeal.Facts),
    quiescent_Kernel (hKernel := hKernel)
    ∧ quiescent_KernelIdeal (hKernelIdeal := hKernelIdeal)
    ∧ quiescent_KernelIdeal_pre_bounded_KernelIdeal (hKernelIdeal := hKernelIdeal) (hPre_bounded_KernelIdeal := hPre_bounded_KernelIdeal)
    ∧ quiescent_ReferenceIdeal (hReferenceIdeal := hReferenceIdeal)
    ∧ quiescent_ReferenceIdeal_pre_bounded_ReferenceIdeal (hReferenceIdeal := hReferenceIdeal) (hPre_bounded_ReferenceIdeal := hPre_bounded_ReferenceIdeal)
    ∧ quiescent_UnclippedIdeal (hUnclippedIdeal := hUnclippedIdeal)
    ∧ preserves_Kernel_KernelIdeal
    ∧ algebraic_KernelIdeal_ReferenceIdeal_pre_bounded_KernelIdeal (hKernelIdeal := hKernelIdeal) (hReferenceIdeal := hReferenceIdeal) (hPre_bounded_KernelIdeal := hPre_bounded_KernelIdeal)
    ∧ algebraic_KernelIdeal_UnclippedIdeal (hKernelIdeal := hKernelIdeal) (hUnclippedIdeal := hUnclippedIdeal)
-- ==== Pre_bounded_KernelIdeal.lean ====
abbrev S4096x512 : Shape := ⟨2, ![4096, 512]⟩
abbrev S4096x2048 : Shape := ⟨2, ![4096, 2048]⟩
abbrev S8x512x2048 : Shape := ⟨3, ![8, 512, 2048]⟩
abbrev S4096x8x2048 : Shape := ⟨3, ![4096, 8, 2048]⟩
abbrev S_ : Shape := ⟨0, ![]⟩

class Facts : Prop where
  shapeCasts_S4096x2048_S8x512x2048 : S4096x2048.ShapeCasts S8x512x2048
  bcast_S_S4096x8x2048 : S_.BroadcastsInDim S4096x8x2048 (![] : Fin 0 → Fin S4096x8x2048.rank)
  dot_S4096x512_S8x512x2048_S4096x8x2048_1_1_0_02_n_n_wf : DotDims.WF S4096x512 S8x512x2048 S4096x8x2048 [1] [1] [0] [0, 2] [] []

variable [Facts]

def dot_S4096x512_S8x512x2048_S4096x8x2048_1_1_0_02_n_n : DotDims S4096x512 S8x512x2048 S4096x8x2048 where
  lhsContracting := [1]
  rhsContracting := [1]
  lhsNonContracting := [0]
  rhsNonContracting := [0, 2]
  lhsBatch := []
  rhsBatch := []
  wf := dot_S4096x512_S8x512x2048_S4096x8x2048_1_1_0_02_n_n_wf
def fn {F : FTy → Type} [FloatOps F] (main_arg0 : FVec F S4096x512 .f32) (main_arg1 : FVec F S4096x2048 .f32) : IVec S4096x8x2048 1 :=
  let main_v0 : FVec F S8x512x2048 .f32 := shapeCast S8x512x2048 main_arg1 shapeCasts_S4096x2048_S8x512x2048
  let main_v1 : FVec F S4096x8x2048 .f32 := (fun l r => Host.dotGeneral dot_S4096x512_S8x512x2048_S4096x8x2048_1_1_0_02_n_n none l r) main_arg0 main_v0
  let main_cst : FVec F S_ .f32 := constant S_ .f32 0xC0F00000#32
  let main_v2 : FVec F S4096x8x2048 .f32 := broadcastInDim S4096x8x2048 ![] bcast_S_S4096x8x2048 main_cst
  let main_v3 : IVec S4096x8x2048 1 := cmpf .oge main_v1 main_v2
  let main_cst_0 : FVec F S_ .f32 := constant S_ .f32 0x40F00000#32
  let main_v4 : FVec F S4096x8x2048 .f32 := broadcastInDim S4096x8x2048 ![] bcast_S_S4096x8x2048 main_cst_0
  let main_v5 : IVec S4096x8x2048 1 := cmpf .ole main_v1 main_v4
  let main_v6 : IVec S4096x8x2048 1 := andi main_v3 main_v5
  main_v6
-- ==== Pre_bounded_ReferenceIdeal.lean ====
abbrev S4096x4096 : Shape := ⟨2, ![4096, 4096]⟩
abbrev S4096x2048 : Shape := ⟨2, ![4096, 2048]⟩
abbrev S1x4096x2048 : Shape := ⟨3, ![1, 4096, 2048]⟩
abbrev S4096x1x2048 : Shape := ⟨3, ![4096, 1, 2048]⟩
abbrev S_ : Shape := ⟨0, ![]⟩

class Facts : Prop where
  shapeCasts_S4096x2048_S1x4096x2048 : S4096x2048.ShapeCasts S1x4096x2048
  bcast_S_S4096x1x2048 : S_.BroadcastsInDim S4096x1x2048 (![] : Fin 0 → Fin S4096x1x2048.rank)
  dot_S4096x4096_S1x4096x2048_S4096x1x2048_1_1_0_02_n_n_wf : DotDims.WF S4096x4096 S1x4096x2048 S4096x1x2048 [1] [1] [0] [0, 2] [] []

variable [Facts]

def dot_S4096x4096_S1x4096x2048_S4096x1x2048_1_1_0_02_n_n : DotDims S4096x4096 S1x4096x2048 S4096x1x2048 where
  lhsContracting := [1]
  rhsContracting := [1]
  lhsNonContracting := [0]
  rhsNonContracting := [0, 2]
  lhsBatch := []
  rhsBatch := []
  wf := dot_S4096x4096_S1x4096x2048_S4096x1x2048_1_1_0_02_n_n_wf
def fn {F : FTy → Type} [FloatOps F] (main_arg0 : FVec F S4096x4096 .f32) (main_arg1 : FVec F S4096x2048 .f32) : IVec S4096x1x2048 1 :=
  let main_v0 : FVec F S1x4096x2048 .f32 := shapeCast S1x4096x2048 main_arg1 shapeCasts_S4096x2048_S1x4096x2048
  let main_v1 : FVec F S4096x1x2048 .f32 := (fun l r => Host.dotGeneral dot_S4096x4096_S1x4096x2048_S4096x1x2048_1_1_0_02_n_n none l r) main_arg0 main_v0
  let main_cst : FVec F S_ .f32 := constant S_ .f32 0xC0F00000#32
  let main_v2 : FVec F S4096x1x2048 .f32 := broadcastInDim S4096x1x2048 ![] bcast_S_S4096x1x2048 main_cst
  let main_v3 : IVec S4096x1x2048 1 := cmpf .oge main_v1 main_v2
  let main_cst_0 : FVec F S_ .f32 := constant S_ .f32 0x40F00000#32
  let main_v4 : FVec F S4096x1x2048 .f32 := broadcastInDim S4096x1x2048 ![] bcast_S_S4096x1x2048 main_cst_0
  let main_v5 : IVec S4096x1x2048 1 := cmpf .ole main_v1 main_v4
  let main_v6 : IVec S4096x1x2048 1 := andi main_v3 main_v5
  main_v6
-- ==== Kernel.lean ====
abbrev S4096x512 : Shape := ⟨2, ![4096, 512]⟩
abbrev S4096x2048 : Shape := ⟨2, ![4096, 2048]⟩
abbrev S512x2048 : Shape := ⟨2, ![512, 2048]⟩
abbrev S9 : Shape := ⟨1, ![9]⟩
abbrev S8 : Shape := ⟨1, ![8]⟩
abbrev S2x512x2048 : Shape := ⟨3, ![2, 512, 2048]⟩
abbrev S2 : Shape := ⟨1, ![2]⟩
abbrev S1 : Shape := ⟨1, ![1]⟩
abbrev S_ : Shape := ⟨0, ![]⟩
abbrev S512x512 : Shape := ⟨2, ![512, 512]⟩
abbrev S1x512x2048 : Shape := ⟨3, ![1, 512, 2048]⟩
abbrev S256x512 : Shape := ⟨2, ![256, 512]⟩
abbrev S256x2048 : Shape := ⟨2, ![256, 2048]⟩

abbrev nBuf : Space → Nat
  | .hbm => 3
  | .vmem => 5
  | .smem => 0
  | _ => 0

abbrev bufTy : (tb : Table) → Fin (tcTables nBuf tb) → BufTy
  | .hbm, ⟨0, _⟩ => ⟨S4096x512, .f32⟩
  | .hbm, ⟨1, _⟩ => ⟨S4096x2048, .f32⟩
  | .hbm, ⟨2, _⟩ => ⟨S512x2048, .f32⟩
  | .local _ .vmem, ⟨0, _⟩ => ⟨S512x2048, .f32⟩
  | .local _ .vmem, ⟨1, _⟩ => ⟨S4096x512, .f32⟩
  | .local _ .vmem, ⟨2, _⟩ => ⟨S4096x512, .bf16⟩
  | .local _ .vmem, ⟨3, _⟩ => ⟨S4096x512, .bf16⟩
  | .local _ .vmem, ⟨4, _⟩ => ⟨S2x512x2048, .f32⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 1 → Bool
  | ⟨0, _⟩ => false
  | _ => false

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  (ofTc nBuf bufTy 1 29 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_scratch0 : Ref sig .tc := ⟨.vmem, 1, rfl⟩
abbrev cc0_scratch1 : Ref sig .tc := ⟨.vmem, 2, rfl⟩
abbrev cc0_scratch2 : Ref sig .tc := ⟨.vmem, 3, rfl⟩
abbrev cc0_scratch6 : Ref sig .tc := ⟨.vmem, 4, rfl⟩
abbrev cc0_sem0_0 : DmaSem sig := 0
abbrev barrier0 : Sem sig := 0

abbrev nD : Nat := 8
abbrev τ : Topo := Topo.v7x

variable {F : FTy → Type} [FloatOps F]

abbrev grid0 : Pipeline.Grid := .none

def k0_off1 (d0 : Dev nD) (c1_i32_0 : BitVec 32) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v3 : BitVec 32 := Scalar.addi v2 c1_i32_0
  let c8_i32_1 : BitVec 32 := 8#32
  let v4 : BitVec 32 := Scalar.remsi v3 c8_i32_1
  ![v4.toNat]
def k0_off2 (d0 : Dev nD) (c1_i32_0 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v3 : BitVec 32 := Scalar.addi v2 c1_i32_0
  let c8_i32_1 : BitVec 32 := 8#32
  let v4 : BitVec 32 := Scalar.remsi v3 c8_i32_1
  let c512_i32_2 : BitVec 32 := 512#32
  let v6 : BitVec 32 := Scalar.muli v4 c512_i32_2
  let c0_i32 : BitVec 32 := 0#32
  ![v6.toNat, 0]
def k0_cond1 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_40 : BitVec 32 := 0#32
  let v68 : BitVec 1 := Scalar.cmpi .ne v2 c0_i32_40
  let v69 : BitVec 32 := Scalar.extui v68
  let c0_i32_41 : BitVec 32 := 0#32
  let v70 : BitVec 1 := Scalar.cmpi .ne v69 c0_i32_41
  v70

def k0_dev1 : Nat :=
  let c0_i32_522 : BitVec 32 := 0#32
  let c0_i32_520 : BitVec 32 := 0#32
  let c1_i32_521 : BitVec 32 := 1#32
  let v580 : BitVec 32 := Scalar.muli c0_i32_520 c1_i32_521
  let v581 : BitVec 32 := Scalar.addi c0_i32_522 v580
  v581.toNat
def k0_cond2 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_42 : BitVec 32 := 1#32
  let v71 : BitVec 1 := Scalar.cmpi .ne v2 c1_i32_42
  let v72 : BitVec 32 := Scalar.extui v71
  let c0_i32_43 : BitVec 32 := 0#32
  let v73 : BitVec 1 := Scalar.cmpi .ne v72 c0_i32_43
  v73

def k0_dev2 : Nat :=
  let c0_i32_522 : BitVec 32 := 0#32
  let c1_i32_520 : BitVec 32 := 1#32
  let c1_i32_521 : BitVec 32 := 1#32
  let v580 : BitVec 32 := Scalar.muli c1_i32_520 c1_i32_521
  let v581 : BitVec 32 := Scalar.addi c0_i32_522 v580
  v581.toNat
def k0_cond3 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_44 : BitVec 32 := 2#32
  let v74 : BitVec 1 := Scalar.cmpi .ne v2 c2_i32_44
  let v75 : BitVec 32 := Scalar.extui v74
  let c0_i32_45 : BitVec 32 := 0#32
  let v76 : BitVec 1 := Scalar.cmpi .ne v75 c0_i32_45
  v76

def k0_dev3 : Nat :=
  let c0_i32_522 : BitVec 32 := 0#32
  let c2_i32_520 : BitVec 32 := 2#32
  let c1_i32_521 : BitVec 32 := 1#32
  let v580 : BitVec 32 := Scalar.muli c2_i32_520 c1_i32_521
  let v581 : BitVec 32 := Scalar.addi c0_i32_522 v580
  v581.toNat
def k0_cond4 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_46 : BitVec 32 := 3#32
  let v77 : BitVec 1 := Scalar.cmpi .ne v2 c3_i32_46
  let v78 : BitVec 32 := Scalar.extui v77
  let c0_i32_47 : BitVec 32 := 0#32
  let v79 : BitVec 1 := Scalar.cmpi .ne v78 c0_i32_47
  v79

def k0_dev4 : Nat :=
  let c0_i32_522 : BitVec 32 := 0#32
  let c3_i32_520 : BitVec 32 := 3#32
  let c1_i32_521 : BitVec 32 := 1#32
  let v580 : BitVec 32 := Scalar.muli c3_i32_520 c1_i32_521
  let v581 : BitVec 32 := Scalar.addi c0_i32_522 v580
  v581.toNat
def k0_cond5 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_48 : BitVec 32 := 4#32
  let v80 : BitVec 1 := Scalar.cmpi .ne v2 c4_i32_48
  let v81 : BitVec 32 := Scalar.extui v80
  let c0_i32_49 : BitVec 32 := 0#32
  let v82 : BitVec 1 := Scalar.cmpi .ne v81 c0_i32_49
  v82

def k0_dev5 : Nat :=
  let c0_i32_522 : BitVec 32 := 0#32
  let c4_i32_520 : BitVec 32 := 4#32
  let c1_i32_521 : BitVec 32 := 1#32
  let v580 : BitVec 32 := Scalar.muli c4_i32_520 c1_i32_521
  let v581 : BitVec 32 := Scalar.addi c0_i32_522 v580
  v581.toNat
def k0_cond6 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_50 : BitVec 32 := 5#32
  let v83 : BitVec 1 := Scalar.cmpi .ne v2 c5_i32_50
  let v84 : BitVec 32 := Scalar.extui v83
  let c0_i32_51 : BitVec 32 := 0#32
  let v85 : BitVec 1 := Scalar.cmpi .ne v84 c0_i32_51
  v85

def k0_dev6 : Nat :=
  let c0_i32_522 : BitVec 32 := 0#32
  let c5_i32_520 : BitVec 32 := 5#32
  let c1_i32_521 : BitVec 32 := 1#32
  let v580 : BitVec 32 := Scalar.muli c5_i32_520 c1_i32_521
  let v581 : BitVec 32 := Scalar.addi c0_i32_522 v580
  v581.toNat
def k0_cond7 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_52 : BitVec 32 := 6#32
  let v86 : BitVec 1 := Scalar.cmpi .ne v2 c6_i32_52
  let v87 : BitVec 32 := Scalar.extui v86
  let c0_i32_53 : BitVec 32 := 0#32
  let v88 : BitVec 1 := Scalar.cmpi .ne v87 c0_i32_53
  v88

def k0_dev7 : Nat :=
  let c0_i32_522 : BitVec 32 := 0#32
  let c6_i32_520 : BitVec 32 := 6#32
  let c1_i32_521 : BitVec 32 := 1#32
  let v580 : BitVec 32 := Scalar.muli c6_i32_520 c1_i32_521
  let v581 : BitVec 32 := Scalar.addi c0_i32_522 v580
  v581.toNat
def k0_cond8 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_54 : BitVec 32 := 7#32
  let v89 : BitVec 1 := Scalar.cmpi .ne v2 c7_i32_54
  let v90 : BitVec 32 := Scalar.extui v89
  let c0_i32_55 : BitVec 32 := 0#32
  let v91 : BitVec 1 := Scalar.cmpi .ne v90 c0_i32_55
  v91

def k0_dev8 : Nat :=
  let c0_i32_522 : BitVec 32 := 0#32
  let c7_i32_520 : BitVec 32 := 7#32
  let c1_i32_521 : BitVec 32 := 1#32
  let v580 : BitVec 32 := Scalar.muli c7_i32_520 c1_i32_521
  let v581 : BitVec 32 := Scalar.addi c0_i32_522 v580
  v581.toNat
def k0_off3 (d0 : Dev nD) (c0_i32_57 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v92 : BitVec 32 := Scalar.subi v2 c0_i32_57
  let c8_i32_58 : BitVec 32 := 8#32
  let v93 : BitVec 32 := Scalar.addi v92 c8_i32_58
  let c8_i32_59 : BitVec 32 := 8#32
  let v94 : BitVec 32 := Scalar.remsi v93 c8_i32_59
  let c512_i32_60 : BitVec 32 := 512#32
  let v95 : BitVec 32 := Scalar.muli v94 c512_i32_60
  let c0_i32_65 : BitVec 32 := 0#32
  ![v95.toNat, 0]
def k0_off4 (d0 : Dev nD) (c1_i32_75 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v110 : BitVec 32 := Scalar.addi v2 c1_i32_75
  let c8_i32_76 : BitVec 32 := 8#32
  let v111 : BitVec 32 := Scalar.remsi v110 c8_i32_76
  let c512_i32_81 : BitVec 32 := 512#32
  let v118 : BitVec 32 := Scalar.muli v111 c512_i32_81
  let v119 : Index := Scalar.indexCast v118
  let c0 : Index := 0#32
  ![v119.toNat, 0]
def k0_dev9 (d0 : Dev nD) : Nat :=
  let c0_i32_90 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_84 : BitVec 32 := 1#32
  let v127 : BitVec 32 := Scalar.addi v2 c1_i32_84
  let c8_i32_85 : BitVec 32 := 8#32
  let v128 : BitVec 32 := Scalar.remsi v127 c8_i32_85
  let c1_i32_89 : BitVec 32 := 1#32
  let v130 : BitVec 32 := Scalar.muli v128 c1_i32_89
  let v131 : BitVec 32 := Scalar.addi c0_i32_90 v130
  v131.toNat
def k0_dev10 (d0 : Dev nD) : Nat :=
  let c0_i32_110 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_104 : BitVec 32 := 2#32
  let v155 : BitVec 32 := Scalar.addi v2 c2_i32_104
  let c8_i32_105 : BitVec 32 := 8#32
  let v156 : BitVec 32 := Scalar.remsi v155 c8_i32_105
  let c1_i32_109 : BitVec 32 := 1#32
  let v158 : BitVec 32 := Scalar.muli v156 c1_i32_109
  let v159 : BitVec 32 := Scalar.addi c0_i32_110 v158
  v159.toNat
def k0_dev11 (d0 : Dev nD) : Nat :=
  let c0_i32_129 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_123 : BitVec 32 := 3#32
  let v183 : BitVec 32 := Scalar.addi v2 c3_i32_123
  let c8_i32_124 : BitVec 32 := 8#32
  let v184 : BitVec 32 := Scalar.remsi v183 c8_i32_124
  let c1_i32_128 : BitVec 32 := 1#32
  let v186 : BitVec 32 := Scalar.muli v184 c1_i32_128
  let v187 : BitVec 32 := Scalar.addi c0_i32_129 v186
  v187.toNat
def k0_dev12 (d0 : Dev nD) : Nat :=
  let c0_i32_148 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_142 : BitVec 32 := 4#32
  let v211 : BitVec 32 := Scalar.addi v2 c4_i32_142
  let c8_i32_143 : BitVec 32 := 8#32
  let v212 : BitVec 32 := Scalar.remsi v211 c8_i32_143
  let c1_i32_147 : BitVec 32 := 1#32
  let v214 : BitVec 32 := Scalar.muli v212 c1_i32_147
  let v215 : BitVec 32 := Scalar.addi c0_i32_148 v214
  v215.toNat
def k0_off5 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off6 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c512_i32_152 : BitVec 32 := 512#32
  let v223 : BitVec 32 := Scalar.muli v2 c512_i32_152
  let c0_i32_153 : BitVec 32 := 0#32
  ![v223.toNat, 0]
def k0_off7 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c512_i32_161 : BitVec 32 := 512#32
  let v233 : BitVec 32 := Scalar.muli v2 c512_i32_161
  let v234 : Index := Scalar.indexCast v233
  let c0_162 : Index := 0#32
  ![v234.toNat, 0]
def k0_dev13 (d0 : Dev nD) : Nat :=
  let c0_i32_201 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_195 : BitVec 32 := 5#32
  let v272 : BitVec 32 := Scalar.addi v2 c5_i32_195
  let c8_i32_196 : BitVec 32 := 8#32
  let v273 : BitVec 32 := Scalar.remsi v272 c8_i32_196
  let c1_i32_200 : BitVec 32 := 1#32
  let v275 : BitVec 32 := Scalar.muli v273 c1_i32_200
  let v276 : BitVec 32 := Scalar.addi c0_i32_201 v275
  v276.toNat
def k0_dev14 (d0 : Dev nD) : Nat :=
  let c0_i32_251 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_245 : BitVec 32 := 6#32
  let v329 : BitVec 32 := Scalar.addi v2 c6_i32_245
  let c8_i32_246 : BitVec 32 := 8#32
  let v330 : BitVec 32 := Scalar.remsi v329 c8_i32_246
  let c1_i32_250 : BitVec 32 := 1#32
  let v332 : BitVec 32 := Scalar.muli v330 c1_i32_250
  let v333 : BitVec 32 := Scalar.addi c0_i32_251 v332
  v333.toNat
def k0_off8 (d0 : Dev nD) (c0_i32_299 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_296 : BitVec 32 := 7#32
  let v386 : BitVec 32 := Scalar.addi v2 c7_i32_296
  let c8_i32_297 : BitVec 32 := 8#32
  let v387 : BitVec 32 := Scalar.remsi v386 c8_i32_297
  let c512_i32_298 : BitVec 32 := 512#32
  let v388 : BitVec 32 := Scalar.muli v387 c512_i32_298
  let v389 : BitVec 32 := Scalar.addi v388 c0_i32_299
  let c0_i32_305 : BitVec 32 := 0#32
  ![v389.toNat, 0]
def k0_dev15 (d0 : Dev nD) : Nat :=
  let c0_i32_303 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_296 : BitVec 32 := 7#32
  let v386 : BitVec 32 := Scalar.addi v2 c7_i32_296
  let c8_i32_297 : BitVec 32 := 8#32
  let v387 : BitVec 32 := Scalar.remsi v386 c8_i32_297
  let c1_i32_302 : BitVec 32 := 1#32
  let v390 : BitVec 32 := Scalar.muli v387 c1_i32_302
  let v391 : BitVec 32 := Scalar.addi c0_i32_303 v390
  v391.toNat
def k0_dev16 (d0 : Dev nD) : Nat :=
  let c0_i32_310 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_296 : BitVec 32 := 7#32
  let v386 : BitVec 32 := Scalar.addi v2 c7_i32_296
  let c8_i32_297 : BitVec 32 := 8#32
  let v387 : BitVec 32 := Scalar.remsi v386 c8_i32_297
  let c1_i32_309 : BitVec 32 := 1#32
  let v400 : BitVec 32 := Scalar.muli v387 c1_i32_309
  let v401 : BitVec 32 := Scalar.addi c0_i32_310 v400
  v401.toNat
abbrev stage0_0 : Fin 1 → Memref sig .tc .vmem S512x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
-- ==== ReferenceIdeal.lean ====
abbrev S4096x4096 : Shape := ⟨2, ![4096, 4096]⟩
abbrev S4096x2048 : Shape := ⟨2, ![4096, 2048]⟩
abbrev S_ : Shape := ⟨0, ![]⟩

abbrev nBuf : Space → Nat
  | .hbm => 17
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x2048, .f32⟩
  | .hbm, ⟨2, _⟩ => ⟨S4096x2048, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S4096x2048, .f32⟩
  | .hbm, ⟨7, _⟩ => ⟨S4096x2048, .f32⟩
  | .hbm, ⟨8, _⟩ => ⟨S_, .f32⟩
  | .hbm, ⟨9, _⟩ => ⟨S4096x2048, .f32⟩
  | .hbm, ⟨10, _⟩ => ⟨S4096x2048, .f32⟩
  | .hbm, ⟨11, _⟩ => ⟨S4096x2048, .f32⟩
  | .hbm, ⟨12, _⟩ => ⟨S4096x2048, .f32⟩
  | .hbm, ⟨13, _⟩ => ⟨S_, .f32⟩
  | .hbm, ⟨14, _⟩ => ⟨S4096x2048, .f32⟩
  | .hbm, ⟨15, _⟩ => ⟨S4096x2048, .f32⟩
  | .hbm, ⟨16, _⟩ => ⟨S4096x2048, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_cst_0 : Ref sig .tc := ⟨.hbm, 4, rfl⟩
abbrev main_call0_v0 : Ref sig .tc := ⟨.hbm, 5, rfl⟩
abbrev main_call0_v1 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst_1 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩

abbrev nD : Nat := 1
abbrev τ : Topo := Topo.v7x

variable {F : FTy → Type} [FloatOps F]
-- ==== UnclippedIdeal.lean ====
abbrev S4096x4096 : Shape := ⟨2, ![4096, 4096]⟩
abbrev S4096x2048 : Shape := ⟨2, ![4096, 2048]⟩
abbrev S_ : Shape := ⟨0, ![]⟩

abbrev nBuf : Space → Nat
  | .hbm => 9
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x2048, .f32⟩
  | .hbm, ⟨2, _⟩ => ⟨S4096x2048, .f32⟩
  | .hbm, ⟨3, _⟩ => ⟨S4096x2048, .f32⟩
  | .hbm, ⟨4, _⟩ => ⟨S4096x2048, .f32⟩
  | .hbm, ⟨5, _⟩ => ⟨S_, .f32⟩
  | .hbm, ⟨6, _⟩ => ⟨S4096x2048, .f32⟩
  | .hbm, ⟨7, _⟩ => ⟨S4096x2048, .f32⟩
  | .hbm, ⟨8, _⟩ => ⟨S4096x2048, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Proof.Cells.lean ====
/-
  The kernel's protocol: the cells, who pays and who waits on each, and the contents each landing hands over.

  Eight devices; device `c` holds `x[:, 512c : 512c+512]` and all of `w`. It stages row block `b` of its `x` (rounded to
  bf16) and copies it to device `b`, into the slot of `b`'s landing buffer that names how far `b` is from `c`.

  * BARRIER cell of `c` (regular, amount 1 each): device `c + r` pays duty `r` (`r = 1 … 7`) and hands over ITS landing slot
    `r`, the one device `c` will copy into; `c` waits for all seven.
  * SEND cell `k` of `c` (`k = 1 … 8`): `c`'s own copy `k` pays it and hands back the staged rows; `c` waits at the end.
  * RECEIVE cell `k` of `c`: paid by the copy `k` of device `c - min k 7`, handing over the landed rows of slot `k`.
    Copies 1 … 6 move whole blocks of 512 rows, copies 7 and 8 the two halves of the seventh.
  * The kernel's own copies of `x` and `w` blocks ride on semaphores no other device touches.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Pipeline.ValueKit.Geometry
public import Idealize.ShloMosaic.Lib.Pointwise.Index
public import Idealize.ShloMosaic.Lib.ViewIndex
public import Idealize.ShloMosaic.Lib.Rounds
public import Idealize.ShloMosaic.Lib.Ring
public import Idealize.ShloMosaic.Lib.Transfers
public import Idealize.ShloMosaic.Lib.Tactic

@[expose] public section

set_option maxRecDepth 16384

noncomputable section

namespace Cert.KP

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The resource algebra: the pipeline's, the rounds' (duties `Fin 8`), and counters for the local copies -/

/-- The rounds' algebra: duties are numbered by `Fin 8`. -/
abbrev UB : Type := URounds (GSem nD τ sig) (Fin 8)
/-- The pipeline's algebra, the rounds' and the counters of the local copies. -/
abbrev UU : Type := UR sig nD τ × (UB × Counters)

local notation "𝕄" => MT nD τ sig Unit (Elt F) ℕ UU ℕ

/-- Where the pipeline's part sits in the whole. -/
abbrev EP : Emb (UR sig nD τ) (MT nD τ sig Unit (Elt F) ℕ UU ℕ) := embL
/-- Where the rounds' part sits in the whole. -/
abbrev ER : Emb UB (MT nD τ sig Unit (Elt F) ℕ UU ℕ) :=
  (Emb.inl : Emb UB (UB × Counters)).trans (embR : Emb (UB × Counters) (MT nD τ sig Unit (Elt F) ℕ UU ℕ))
/-- Where the counters sit in the whole. -/
abbrev EC : UEmb Counters (MT nD τ sig Unit (Elt F) ℕ UU ℕ) := countersEmb

variable (m : (ℓ : Loc nD τ sig) → Buf (Elt F) ℓ) (ρ : Dev nD → PrngReg)

/-! ## Devices -/

set_option backward.proofsInPublic true in
/-- The device `k` places after `c`. -/
def up (c : Dev nD) (k : ℕ) : Dev nD := ⟨(c.val + k) % 8, Nat.mod_lt _ (by decide)⟩
set_option backward.proofsInPublic true in
/-- The device `k` places before `c`. -/
def dn (c : Dev nD) (k : ℕ) : Dev nD := ⟨(c.val + 8 - k) % 8, Nat.mod_lt _ (by decide)⟩

/-- How far copy `k` goes: copies 7 and 8 are the two halves of the seventh block. -/
def hop (k : Fin 9) : ℕ := min k.val 7

/-- `k` places back and `k` forth is the device itself. -/
theorem up_dn : ∀ (c : Dev nD) (k : Fin 9), up (dn c k.val) k.val = c := by decide
/-- `k` places forth and `k` back is the device itself. -/
theorem dn_up : ∀ (c : Dev nD) (k : Fin 9), dn (up c k.val) k.val = c := by decide
/-- As `up_dn`, by the distance of a copy. -/
theorem up_dn_hop : ∀ (c : Dev nD) (k : Fin 9), up (dn c (hop k)) (hop k) = c := by decide
/-- As `dn_up`, by the distance of a copy. -/
theorem dn_up_hop : ∀ (c : Dev nD) (k : Fin 9), dn (up c (hop k)) (hop k) = c := by decide
/-- There are eight devices. -/
theorem val_lt (c : Dev nD) : c.val < 8 := c.isLt

/-! ## Semaphores and cells -/

/-- The barrier semaphore. -/
abbrev barS : Sem sig := (SemArray.scalar (sig.barrier 0 rfl) : Sems sig S_).sem

/-- Semaphore `k` is one of nine. -/
theorem inb9 (k : Fin 9) : ∀ a, (![k.val] : Fin 1 → ℕ) a + S1.size a ≤ S9.size a := by revert k; decide
/-- Semaphore `k` is one of eight. -/
theorem inb8 (k : Fin 8) : ∀ a, (![k.val] : Fin 1 → ℕ) a + S1.size a ≤ S8.size a := by revert k; decide
/-- Semaphore `k` is one of two. -/
theorem inb2 (k : Fin 2) : ∀ a, (![k.val] : Fin 1 → ℕ) a + S1.size a ≤ S2.size a := by revert k; decide

/-- The send semaphore of copy `k`. -/
def sendS (k : Fin 9) : DmaSem sig := ((cc0_scratch3.slice (Rect.unit (s := S9) ![k.val] S1.size (inb9 k))).squeeze S_ squeezes_S1_S_).sem
/-- The receive semaphore of copy `k`. -/
def recvS (k : Fin 9) : DmaSem sig := ((cc0_scratch4.slice (Rect.unit (s := S9) ![k.val] S1.size (inb9 k))).squeeze S_ squeezes_S1_S_).sem
/-- The semaphore of the fetch of block `k` of `x`. -/
def xS (k : Fin 8) : DmaSem sig := ((cc0_scratch5.slice (Rect.unit (s := S8) ![k.val] S1.size (inb8 k))).squeeze S_ squeezes_S1_S_).sem
/-- The semaphore of slot `k` of the buffer of `w` blocks. -/
def wS (k : Fin 2) : DmaSem sig := ((cc0_scratch7.slice (Rect.unit (s := S2) ![k.val] S1.size (inb2 k))).squeeze S_ squeezes_S1_S_).sem

/-- The barrier semaphore on device `c`. -/
abbrev barCell (c : Dev nD) : GSem nD τ sig := ((c : Thread nD τ), .reg barS)
/-- The send semaphore of copy `k` on device `c`. -/
abbrev sendCell (c : Dev nD) (k : Fin 9) : GSem nD τ sig := ((c : Thread nD τ), .dma (sendS k))
/-- The receive semaphore of copy `k` on device `c`. -/
abbrev recvCell (c : Dev nD) (k : Fin 9) : GSem nD τ sig := ((c : Thread nD τ), .dma (recvS k))

/-- Which copy a semaphore serves, `f` naming the semaphore of each copy. -/
def kOf (f : Fin 9 → DmaSem sig) (s : SemLoc sig) : Option (Fin 9) := (List.finRange 9).find? fun k => s = .dma (f k)

/-- The receive semaphores name their copies. -/
theorem kOf_recv : ∀ k : Fin 9, kOf recvS (.dma (recvS k)) = some k := by decide
/-- The send semaphores name their copies. -/
theorem kOf_send : ∀ k : Fin 9, kOf sendS (.dma (sendS k)) = some k := by decide
/-- A send semaphore is no receive semaphore. -/
theorem kOf_recv_send : ∀ k : Fin 9, kOf recvS (.dma (sendS k)) = none := by decide
/-- A receive semaphore is no send semaphore. -/
theorem kOf_send_recv : ∀ k : Fin 9, kOf sendS (.dma (recvS k)) = none := by decide
/-- A semaphore of a fetch of `x` is no receive semaphore. -/
theorem kOf_recv_x : ∀ k : Fin 8, kOf recvS (.dma (xS k)) = none := by decide
/-- A semaphore of a fetch of `w` is no receive semaphore. -/
theorem kOf_recv_w : ∀ k : Fin 2, kOf recvS (.dma (wS k)) = none := by decide
/-- The barrier semaphore is no receive semaphore. -/
theorem kOf_recv_bar : kOf recvS (.reg barS) = none := by decide
/-- The barrier semaphore is no send semaphore. -/
theorem kOf_send_bar : kOf sendS (.reg barS) = none := by decide

/-! ## Row sets -/

/-- The elements of the `n` rows from row `lo` of a 4096 × 512 buffer. -/
def rows (lo n : ℕ) : Finset S4096x512.Idx := Finset.univ.filter fun i => lo ≤ (i 0).val ∧ (i 0).val < lo + n
/-- The elements of the 512 rows from row `lo` of `w`. -/
def wrows (lo : ℕ) : Finset S4096x2048.Idx := Finset.univ.filter fun i => lo ≤ (i 0).val ∧ (i 0).val < lo + 512
/-- The elements of slot `k` of the two-slot buffer of `w` blocks. -/
def wslot (k : ℕ) : Finset S2x512x2048.Idx := Finset.univ.filter fun i => (i 0).val = k

/-- An element lies in the rows if its row does. -/
theorem mem_rows {lo n : ℕ} {i : S4096x512.Idx} : i ∈ rows lo n ↔ lo ≤ (i 0).val ∧ (i 0).val < lo + n := by simp [rows]
/-- An element of `w` lies in the rows if its row does. -/
theorem mem_wrows {lo : ℕ} {i : S4096x2048.Idx} : i ∈ wrows lo ↔ lo ≤ (i 0).val ∧ (i 0).val < lo + 512 := by simp [wrows]
/-- An element lies in the slot that its first coordinate names. -/
theorem mem_wslot {k : ℕ} {i : S2x512x2048.Idx} : i ∈ wslot k ↔ (i 0).val = k := by simp [wslot]

/-- A rectangle of 512 whole rows covers those rows. -/
theorem rect_rows512 {off : Fin 2 → ℕ} {lo : ℕ} (h : off = ![lo, 0]) (inb : ∀ a, off a + S512x512.size a ≤ S4096x512.size a) :
    (Rect.unit (s := S4096x512) off S512x512.size inb).set = rows lo 512 := by
  subst h
  ext i
  rw [Rect.mem_set_unit, mem_rows]
  constructor
  · intro H; exact H 0
  · intro H a
    fin_cases a
    · exact H
    · exact ⟨Nat.zero_le _, by have := (i 1).isLt; simpa using this⟩

/-- A rectangle of 256 whole rows covers those rows. -/
theorem rect_rows256 {off : Fin 2 → ℕ} {lo : ℕ} (h : off = ![lo, 0]) (inb : ∀ a, off a + S256x512.size a ≤ S4096x512.size a) :
    (Rect.unit (s := S4096x512) off S256x512.size inb).set = rows lo 256 := by
  subst h
  ext i
  rw [Rect.mem_set_unit, mem_rows]
  constructor
  · intro H; exact H 0
  · intro H a
    fin_cases a
    · exact H
    · exact ⟨Nat.zero_le _, by have := (i 1).isLt; simpa using this⟩

/-- A rectangle of 512 whole rows of `w` covers those rows. -/
theorem rect_wrows {off : Fin 2 → ℕ} {lo : ℕ} (h : off = ![lo, 0]) (inb : ∀ a, off a + S512x2048.size a ≤ S4096x2048.size a) :
    (Rect.unit (s := S4096x2048) off S512x2048.size inb).set = wrows lo := by
  subst h
  ext i
  rw [Rect.mem_set_unit, mem_wrows]
  constructor
  · intro H; exact H 0
  · intro H a
    fin_cases a
    · exact H
    · exact ⟨Nat.zero_le _, by have := (i 1).isLt; simpa using this⟩

/-- The rectangle of a slot covers the slot. -/
theorem rect_wslot (k : ℕ) (inb : ∀ a, (![k, 0, 0] : Fin 3 → ℕ) a + S1x512x2048.size a ≤ S2x512x2048.size a) :
    (Rect.unit (s := S2x512x2048) ![k, 0, 0] S1x512x2048.size inb).set = wslot k := by
  ext i
  rw [Rect.mem_set_unit, mem_wslot]
  constructor
  · intro H
    have h0 := H 0
    have h1 : k ≤ (i 0).val := h0.1
    have h2 : (i 0).val < k + 1 := h0.2
    omega
  · intro H a
    fin_cases a
    · exact ⟨H.ge, by show (i 0).val < k + 1; omega⟩
    · exact ⟨Nat.zero_le _, by have := (i 1).isLt; simpa using this⟩
    · exact ⟨Nat.zero_le _, by have := (i 2).isLt; simpa using this⟩

/-! ## Contents -/

/-- Device `c`'s columns of `x`, and its copy of `w`, as the kernel finds them. -/
def XV (c : Dev nD) : S4096x512.Idx → Elt F .f32 := m ((c : Thread nD τ).loc main_arg0)
/-- Device `c`'s copy of `w`, as the kernel finds it. -/
def WV (c : Dev nD) : S4096x2048.Idx → Elt F .f32 := m ((c : Thread nD τ).loc main_arg1)

/-- Device `c`'s `x` rounded to bf16: what its staging buffer holds, block by block. -/
def XB (c : Dev nD) : S4096x512.Idx → Elt F .bf16 := truncf (s := S4096x512) .bf16 (XV m c) bitsLt_bf16_f32

set_option backward.proofsInPublic true in
/-- What lands in device `c`'s landing buffer: in slot `k`, its own rows of the rounded `x` of the device `k` places before it. -/
def CM (c : Dev nD) : S4096x512.Idx → Elt F .bf16 := fun i =>
  XB m (dn c ((i 0).val / 512)) (ix2 ⟨512 * c.val + (i 0).val % 512, by have := val_lt c; omega⟩ (i 1))

set_option backward.proofsInPublic true in
/-- Row block `b` of `w`, wherever it lies in the two-slot buffer. -/
def W3 (c b : Dev nD) : S2x512x2048.Idx → Elt F .f32 := fun i =>
  WV m c (ix2 ⟨512 * b.val + (i 1).val, by have := val_lt b; have h : (i 1).val < 512 := (i 1).isLt; omega⟩ (i 2))

set_option backward.proofsInPublic true in
/-- Row block `b` of `w` as a load reads it. -/
def wv (c b : Dev nD) : S1x512x2048.Idx → Elt F .f32 := fun i =>
  WV m c (ix2 ⟨512 * b.val + (i 1).val, by have := val_lt b; have h : (i 1).val < 512 := (i 1).isLt; omega⟩ (i 2))

set_option backward.proofsInPublic true in
/-- Row block `b` of device `c`'s columns of `x`. -/
def xblk (c b : Dev nD) : S512x512.Idx → Elt F .f32 := fun j =>
  XV m c (ix2 ⟨512 * b.val + (j 0).val, by have := val_lt b; have h : (j 0).val < 512 := (j 0).isLt; omega⟩ (j 1))

set_option backward.proofsInPublic true in
/-- The `k`th landed block of device `c`. -/
def cmb (c : Dev nD) (k : Fin 8) : S512x512.Idx → Elt F .bf16 := fun j =>
  CM m c (ix2 ⟨512 * k.val + (j 0).val, by have h : (j 0).val < 512 := (j 0).isLt; omega⟩ (j 1))

set_option backward.proofsInPublic true in
/-- The two halves of the last landed block of device `c`. -/
def cmh (c : Dev nD) (h : Fin 2) : S256x512.Idx → Elt F .bf16 := fun j =>
  CM m c (ix2 ⟨3584 + 256 * h.val + (j 0).val, by have h' : (j 0).val < 256 := (j 0).isLt; omega⟩ (j 1))

set_option backward.proofsInPublic true in
/-- The running sum after `s` landed blocks: the device's own product, then one product more for each block. -/
def OUT (c : Dev nD) : ℕ → S512x2048.Idx → Elt F .f32
  | 0 => k0_pay6 (xblk m c c) (wv m c c)
  | s + 1 => k0_pay8 (OUT c s) (cmb m c ⟨(s + 1) % 8, Nat.mod_lt _ (by decide)⟩) (wv m c (dn c (s + 1)))

set_option backward.proofsInPublic true in
/-- The upper (`h = 0`) or lower half of the running sum before the last block. -/
def outh (c : Dev nD) (h : Fin 2) : S256x2048.Idx → Elt F .f32 := fun j =>
  OUT m c 6 (ix2 ⟨256 * h.val + (j 0).val, by have h' : (j 0).val < 256 := (j 0).isLt; omega⟩ (j 1))

/-- The finished halves. -/
def finh (c : Dev nD) : Fin 2 → S256x2048.Idx → Elt F .f32
  | 0 => k0_pay18 (outh m c 0) (cmh m c 0) (wv m c (dn c 7))
  | 1 => k0_pay19 (outh m c 1) (cmh m c 1) (wv m c (dn c 7))

set_option backward.proofsInPublic true in
/-- Device `c`'s result. -/
def FIN (c : Dev nD) : S512x2048.Idx → Elt F .f32 := fun i =>
  finh m c ⟨(i 0).val / 256, by have h : (i 0).val < 512 := (i 0).isLt; omega⟩
    (ix2 ⟨(i 0).val % 256, Nat.mod_lt _ (by decide)⟩ (i 1))

/-! ## Pieces of the buffers -/

/-- Rows of the device's argument `x`. -/
def XA (c : Dev nD) (lo n : ℕ) : sProp 𝕄 := ((c : Thread nD τ).loc main_arg0) ↦[rows lo n]{fullShare} XV m c
/-- A row block of the device's argument `w`. -/
def WA (c : Dev nD) (lo : ℕ) : sProp 𝕄 := ((c : Thread nD τ).loc main_arg1) ↦[wrows lo]{fullShare} WV m c
/-- Rows of the buffer that `x` is fetched into. -/
def XP (c : Dev nD) (lo n : ℕ) (f : S4096x512.Idx → Elt F .f32) : sProp 𝕄 := ((c : Thread nD τ).loc cc0_scratch0) ↦[rows lo n]{fullShare} f
/-- Rows of the staging buffer. -/
def SP (c : Dev nD) (lo n : ℕ) (f : S4096x512.Idx → Elt F .bf16) : sProp 𝕄 := ((c : Thread nD τ).loc cc0_scratch1) ↦[rows lo n]{fullShare} f
/-- Rows of the landing buffer. -/
def CP (c : Dev nD) (lo n : ℕ) (f : S4096x512.Idx → Elt F .bf16) : sProp 𝕄 := ((c : Thread nD τ).loc cc0_scratch2) ↦[rows lo n]{fullShare} f
/-- A slot of the buffer of `w` blocks. -/
def WP (c : Dev nD) (k : ℕ) (f : S2x512x2048.Idx → Elt F .f32) : sProp 𝕄 := ((c : Thread nD τ).loc cc0_scratch6) ↦[wslot k]{fullShare} f
/-- The output's buffer, whole. -/
def OP (c : Dev nD) (f : S512x2048.Idx → Elt F .f32) : sProp 𝕄 := ((c : Thread nD τ).loc cc0_stg0_0) ↦{fullShare} f

/-- First row and number of rows of copy `k`'s landing slot. -/
def clo (k : Fin 9) : ℕ := if k.val ≤ 7 then 512 * k.val else 3840
/-- The number of rows that copy `k` moves. -/
def mlen (k : Fin 9) : ℕ := if k.val ≤ 6 then 512 else 256
/-- First row of copy `k`'s source: the block of the device it goes to. -/
def slo (c : Dev nD) (k : Fin 9) : ℕ := 512 * (up c (hop k)).val + (if k.val = 8 then 256 else 0)

/-- Rows of the staging buffer may be kept by a cell. -/
instance SP_storable (c : Dev nD) (lo n f) : BI.Storable (upEmb : UEmb _ 𝕄) (SP (F := F) c lo n f) := by unfold SP; infer_instance
/-- Rows of the landing buffer may be kept by a cell. -/
instance CP_storable (c : Dev nD) (lo n f) : BI.Storable (upEmb : UEmb _ 𝕄) (CP (F := F) c lo n f) := by unfold CP; infer_instance

/-! ## The schedule -/

/-- Duty `d` of device `c`'s barrier cell hands over landing slot `d` of the device `d` places after it. -/
def barPay (c : Dev nD) (d : Fin 8) : sProp 𝕄 := iprop(∃ f, CP (F := F) (up c d.val) (512 * d.val) 512 f)
/-- Receive cell `k` hands over the landed rows of its slot. -/
def recvPay (c : Dev nD) (k : Fin 9) : sProp 𝕄 := CP c (clo k) (mlen k) (CM m c)
/-- Send cell `k` hands back the staged rows. -/
def sendPay (c : Dev nD) (k : Fin 9) : sProp 𝕄 := SP c (slo c k) (mlen k) (XB m c)

/-- The credit of a copy of 512 rows, and of 256. -/
def N512 : ℕ := ((Memref.whole cc0_scratch2 : Memref sig .tc .vmem S4096x512 .bf16).slice (Rect.unit (s := S4096x512) ![0, 0] S512x512.size (by decide)) (fun _ => rfl)).view.dmaCredit
/-- The credit of a copy of 256 rows. -/
def N256 : ℕ := ((Memref.whole cc0_scratch2 : Memref sig .tc .vmem S4096x512 .bf16).slice (Rect.unit (s := S4096x512) ![0, 0] S256x512.size (by decide)) (fun _ => rfl)).view.dmaCredit
/-- The credit of copy `k`. -/
def msgN (k : Fin 9) : ℕ := if k.val ≤ 6 then N512 else N256

/-- Every copy of 512 rows into the landing buffer has this credit. -/
theorem credit_comm512 (off : Fin 2 → ℕ) (inb) : ((Memref.whole cc0_scratch2 : Memref sig .tc .vmem S4096x512 .bf16).slice (Rect.unit (s := S4096x512) off S512x512.size inb) (fun _ => rfl)).view.dmaCredit = N512 := rfl
/-- Every copy of 256 rows into the landing buffer has this credit. -/
theorem credit_comm256 (off : Fin 2 → ℕ) (inb) : ((Memref.whole cc0_scratch2 : Memref sig .tc .vmem S4096x512 .bf16).slice (Rect.unit (s := S4096x512) off S256x512.size inb) (fun _ => rfl)).view.dmaCredit = N256 := rfl
/-- Every copy of 512 rows out of the staging buffer has this credit. -/
theorem credit_stage512 (off : Fin 2 → ℕ) (inb) : ((Memref.whole cc0_scratch1 : Memref sig .tc .vmem S4096x512 .bf16).slice (Rect.unit (s := S4096x512) off S512x512.size inb) (fun _ => rfl)).view.dmaCredit = N512 := rfl
/-- Every copy of 256 rows out of the staging buffer has this credit. -/
theorem credit_stage256 (off : Fin 2 → ℕ) (inb) : ((Memref.whole cc0_scratch1 : Memref sig .tc .vmem S4096x512 .bf16).slice (Rect.unit (s := S4096x512) off S256x512.size inb) (fun _ => rfl)).view.dmaCredit = N256 := rfl

/-- No copy is without credit. -/
theorem msgN_pos (k : Fin 9) : 0 < msgN k := by
  unfold msgN N512 N256
  split
  · exact View.dmaCredit_pos _ (by decide)
  · exact View.dmaCredit_pos _ (by decide)

/-- What a copy's cell is paid, `1` on the barrier cell. -/
def amt (g : GSem nD τ sig) : ℕ :=
  match kOf recvS g.2 with
  | some k => msgN k
  | none => match kOf sendS g.2 with
    | some k => msgN k
    | none => 1

/-- What a payment of a cell hands over. -/
def pay (g : GSem nD τ sig) (d : Fin 8) : sProp 𝕄 :=
  if g.2 = .reg barS then barPay g.1.1 d else
  match kOf recvS g.2 with
  | some k => recvPay m g.1.1 k
  | none => match kOf sendS g.2 with
    | some k => sendPay m g.1.1 k
    | none => iprop(emp)

/-- One round: a barrier cell has duties 1 … 7 of one unit each, a copy's cells the duty 0 of the copy's credit. -/
def sch : Rounds.Schedule (GSem nD τ sig) (Fin 8) 𝕄 where
  duties g r := if r = 0 ∧ g.1.2 = .tc then (if g.2 = .reg barS then Finset.univ.erase 0 else {0}) else ∅
  unitless _ := False
  amount g _ _ := amt g
  payload g _ d := pay m g d
  amount_pos g _ _ _ := by
    unfold amt
    split
    · exact msgN_pos _
    · split
      · exact msgN_pos _
      · exact Nat.one_pos

/-- Whatever a payment hands over may be kept by its cell. -/
instance sch_payload_storable (g : GSem nD τ sig) (r : ℕ) (d : Fin 8) :
    BI.Storable (upEmb : UEmb _ 𝕄) ((sch (F := F) m).payload g r d) := by
  show BI.Storable upEmb (pay m g d)
  unfold pay barPay recvPay sendPay
  (repeat' split) <;> infer_instance

section Sched
variable (c : Dev nD) (k : Fin 9)

/-- A barrier cell has duties 1 to 7. -/
theorem duties_bar : (sch (F := F) m).duties (barCell c) 0 = Finset.univ.erase 0 := by
  dsimp only [sch]; rw [if_pos ⟨rfl, rfl⟩, if_pos rfl]
/-- A send cell has the one duty 0. -/
theorem duties_send : (sch (F := F) m).duties (sendCell c k) 0 = {0} := by
  dsimp only [sch]; rw [if_pos ⟨rfl, rfl⟩, if_neg (by intro h; cases h)]
/-- A receive cell has the one duty 0. -/
theorem duties_recv : (sch (F := F) m).duties (recvCell c k) 0 = {0} := by
  dsimp only [sch]; rw [if_pos ⟨rfl, rfl⟩, if_neg (by intro h; cases h)]
/-- There is one round. -/
theorem duties_later (g : GSem nD τ sig) : ∀ r, 1 ≤ r → (sch (F := F) m).duties g r = ∅ :=
  fun r hr => by dsimp only [sch]; rw [if_neg fun h => by omega]

/-- A duty of a barrier cell is one unit. -/
theorem amount_bar (d : Fin 8) : (sch (F := F) m).amount (barCell c) 0 d = 1 := by
  show amt (barCell c) = 1
  unfold amt; rw [kOf_recv_bar, kOf_send_bar]
/-- The duty of a send cell is its copy's credit. -/
theorem amount_send (d : Fin 8) : (sch (F := F) m).amount (sendCell c k) 0 d = msgN k := by
  show amt (sendCell c k) = _
  unfold amt; rw [kOf_recv_send, kOf_send]
/-- The duty of a receive cell is its copy's credit. -/
theorem amount_recv (d : Fin 8) : (sch (F := F) m).amount (recvCell c k) 0 d = msgN k := by
  show amt (recvCell c k) = _
  unfold amt; rw [kOf_recv]

/-- A barrier cell is paid seven units. -/
theorem expect_bar : (sch (F := F) m).expect (barCell c) 0 = 7 := by
  unfold Schedule.expect Schedule.amountOf
  rw [duties_bar, Finset.sum_congr rfl fun d _ => amount_bar m c d, Finset.sum_const]; rfl
/-- A send cell is paid its copy's credit. -/
theorem expect_send : (sch (F := F) m).expect (sendCell c k) 0 = msgN k := by
  unfold Schedule.expect Schedule.amountOf; rw [duties_send, Finset.sum_singleton, amount_send]
/-- A receive cell is paid its copy's credit. -/
theorem expect_recv : (sch (F := F) m).expect (recvCell c k) 0 = msgN k := by
  unfold Schedule.expect Schedule.amountOf; rw [duties_recv, Finset.sum_singleton, amount_recv]

/-- What a signal to a barrier cell hands over. -/
theorem payload_bar (d : Fin 8) : (sch (F := F) m).payload (barCell c) 0 d = barPay c d := by
  show pay m (barCell c) d = _
  unfold pay; exact if_pos rfl
/-- What the end of a send hands back. -/
theorem payload_send (d : Fin 8) : (sch (F := F) m).payload (sendCell c k) 0 d = sendPay m c k := by
  show pay m (sendCell c k) d = _
  unfold pay; rw [if_neg (by intro h; cases h), kOf_recv_send, kOf_send]
/-- What a landing hands over. -/
theorem payload_recv (d : Fin 8) : (sch (F := F) m).payload (recvCell c k) 0 d = recvPay m c k := by
  show pay m (recvCell c k) d = _
  unfold pay; rw [if_neg (by intro h; cases h), kOf_recv]

/-- A barrier cell's whole round: the seven landing slots. -/
theorem rest_bar : bigSep ((sch (F := F) m).duties (barCell c) 0 \ ∅) (fun d => (sch (F := F) m).payload (barCell c) 0 d)
    = iprop(barPay c 1 ∗ barPay c 2 ∗ barPay c 3 ∗ barPay c 4 ∗ barPay c 5 ∗ barPay c 6 ∗ barPay c 7) := by
  rw [Finset.sdiff_empty, duties_bar, bigSep_eq_bigSepL_of_eq [1, 2, 3, 4, 5, 6, 7] (by decide) (by decide)]
  simp only [bigSepL_cons_cons, bigSepL_singleton, payload_bar]
  rfl
/-- All that a send cell still has to hand over at the start. -/
theorem rest_send : bigSep ((sch (F := F) m).duties (sendCell c k) 0 \ ∅) (fun d => (sch (F := F) m).payload (sendCell c k) 0 d) = sendPay m c k := by
  rw [Finset.sdiff_empty, duties_send, bigSep_singleton, payload_send]
/-- All that a receive cell still has to hand over at the start. -/
theorem rest_recv : bigSep ((sch (F := F) m).duties (recvCell c k) 0 \ ∅) (fun d => (sch (F := F) m).payload (recvCell c k) 0 d) = recvPay m c k := by
  rw [Finset.sdiff_empty, duties_recv, bigSep_singleton, payload_recv]

end Sched

/-! ## What each core owes; the levels -/

/-- The credits of the copies `n … 8` device `c` still has to send. -/
def recvOwes (c : Dev nD) (n : ℕ) : CellTallies nD τ sig Unit :=
  ∑ k : Fin 9, if n ≤ k.val then tallyAt (recvCell (up c (hop k)) k) () (msgN k) else 0
/-- One unit for each other device `j …` not yet signalled, and all its copies. -/
def sigOwes (c : Dev nD) (n : ℕ) : CellTallies nD τ sig Unit :=
  recvOwes c 1 + ∑ j : Dev nD, if n ≤ j.val ∧ j ≠ c then tallyAt (barCell j) () 1 else 0

/-- After copy 8 nothing is owed. -/
theorem recvOwes_nine (c : Dev nD) : recvOwes c 9 = 0 :=
  Finset.sum_eq_zero fun k _ => if_neg (by have := k.isLt; omega)
/-- After the signals the copies are owed. -/
theorem sigOwes_eight (c : Dev nD) : sigOwes c 8 = recvOwes c 1 := by
  unfold sigOwes
  rw [Finset.sum_eq_zero fun j _ => if_neg (fun h => by have := val_lt j; omega), add_zero]

/-- What is owed before copy `k` is what is owed after it, and its credit. -/
theorem recvOwes_succ (c : Dev nD) (k : Fin 9) :
    recvOwes c k.val = recvOwes c (k.val + 1) + tallyAt (recvCell (up c (hop k)) k) () (msgN k) := by
  unfold recvOwes
  rw [← Finset.add_sum_erase _ _ (Finset.mem_univ k), if_pos le_rfl, ← Finset.add_sum_erase Finset.univ (fun k' : Fin 9 => if k.val + 1 ≤ k'.val then _ else _) (Finset.mem_univ k),
    if_neg (by omega), zero_add, add_comm]
  congr 1
  refine Finset.sum_congr rfl fun k' hk' => ?_
  have hne : k'.val ≠ k.val := fun h => (Finset.mem_erase.mp hk').1 (Fin.ext h)
  by_cases h : k.val ≤ k'.val
  · rw [if_pos h, if_pos (by omega)]
  · rw [if_neg h, if_neg (by omega)]

/-- What is owed before signalling `j` is what is owed after it, and one unit. -/
theorem sigOwes_succ (c j : Dev nD) (hj : j ≠ c) : sigOwes c j.val = sigOwes c (j.val + 1) + tallyAt (barCell j) () 1 := by
  unfold sigOwes
  rw [← Finset.add_sum_erase _ _ (Finset.mem_univ j), if_pos ⟨le_rfl, hj⟩,
    ← Finset.add_sum_erase Finset.univ (fun j' : Dev nD => if j.val + 1 ≤ j'.val ∧ j' ≠ c then _ else _) (Finset.mem_univ j),
    if_neg (by omega), zero_add, add_assoc]
  congr 1
  rw [add_comm]
  congr 1
  refine Finset.sum_congr rfl fun j' hj' => ?_
  have hne : j'.val ≠ j.val := fun h => (Finset.mem_erase.mp hj').1 (Fin.ext h)
  by_cases h : j.val ≤ j'.val ∧ j' ≠ c
  · rw [if_pos h, if_pos ⟨by omega, h.2⟩]
  · rw [if_neg h, if_neg (fun h' => h ⟨by omega, h'.2⟩)]

/-- A device does not signal itself. -/
theorem sigOwes_skip (c : Dev nD) : sigOwes c c.val = sigOwes c (c.val + 1) := by
  unfold sigOwes
  congr 1
  refine Finset.sum_congr rfl fun j' _ => ?_
  by_cases h : c.val ≤ j'.val ∧ j' ≠ c
  · have hne : j'.val ≠ c.val := fun h' => h.2 (Fin.ext h')
    rw [if_pos h, if_pos ⟨by omega, h.2⟩]
  · rw [if_neg h, if_neg (fun h' => h ⟨by omega, h'.2⟩)]

/-- The one label of each cell of a TensorCore. -/
def L (g : GSem nD τ sig) : Finset Unit := if g.1.2 = .tc then {()} else ∅
/-- Barrier cells at 1, the receive cell of copy `k` at `1 + k`, everything else at 0. -/
def lv (g : GSem nD τ sig) (_ : Unit) : ℕ :=
  if g.2 = .reg barS then 1 else
  match kOf recvS g.2 with
  | some k => 1 + k.val
  | none => 0

/-- No other thread has labels. -/
theorem L_of_ne (g : GSem nD τ sig) (h : g.1.2 ≠ .tc) : L g = ∅ := if_neg h
/-- A TensorCore's cells have the one label. -/
theorem L_tc (c : Dev nD) (sm : SemLoc sig) : L ((c : Thread nD τ), sm) = {()} := if_pos rfl
/-- The level of a barrier cell is 1. -/
theorem lv_bar (c : Dev nD) : lv (barCell c) () = 1 := if_pos rfl
/-- The level of receive cell `k` is `1 + k`. -/
theorem lv_recv (c : Dev nD) (k : Fin 9) : lv (recvCell c k) () = 1 + k.val := by
  unfold lv; rw [if_neg (by intro h; cases h), kOf_recv]
/-- The level of any other cell is 0. -/
theorem lv_local (c : Dev nD) (q : DmaSem sig) (h : kOf recvS (.dma q) = none) : lv ((c : Thread nD τ), .dma q) () = 0 := by
  unfold lv; rw [if_neg (by intro h; cases h), h]

/-- What is owed from copy `n` on is owed to receive cells of later copies. -/
theorem recvOwes_pos {c : Dev nD} {n : ℕ} {g : GSem nD τ sig} {u : Unit} (h : 0 < recvOwes c n g u) :
    ∃ k : Fin 9, n ≤ k.val ∧ g = recvCell (up c (hop k)) k := by
  unfold recvOwes at h
  rw [Finset.sum_apply, Finsupp.finset_sum_apply] at h
  obtain ⟨k, -, hk⟩ := Finset.exists_ne_zero_of_sum_ne_zero (Nat.pos_iff_ne_zero.mp h)
  by_cases hn : n ≤ k.val
  · refine ⟨k, hn, ?_⟩
    rw [if_pos hn, tallyAt_apply] at hk
    by_contra hg
    exact hk (if_neg fun h' => hg h'.1)
  · rw [if_neg hn] at hk; exact absurd rfl hk

/-- What is owed at the start is owed to barrier cells and receive cells. -/
theorem sigOwes_pos {c : Dev nD} {n : ℕ} {g : GSem nD τ sig} {u : Unit} (h : 0 < sigOwes c n g u) :
    (∃ k : Fin 9, 1 ≤ k.val ∧ g = recvCell (up c (hop k)) k) ∨ ∃ j : Dev nD, g = barCell j := by
  unfold sigOwes at h
  rw [Pi.add_apply, Finsupp.add_apply] at h
  rcases Nat.eq_zero_or_pos (recvOwes c 1 g u) with h0 | h0
  · right
    rw [h0, zero_add, Finset.sum_apply, Finsupp.finset_sum_apply] at h
    obtain ⟨j, -, hj⟩ := Finset.exists_ne_zero_of_sum_ne_zero (Nat.pos_iff_ne_zero.mp h)
    refine ⟨j, ?_⟩
    by_cases hn : n ≤ j.val ∧ j ≠ c
    · rw [if_pos hn, tallyAt_apply] at hj
      by_contra hg
      exact hj (if_neg fun h' => hg h'.1)
    · rw [if_neg hn] at hj; exact absurd rfl hj
  · exact .inl (recvOwes_pos h0)

/-- Everything owed lies above the waited cell's level. -/
theorem mayWait_of (c : Dev nD) (sm : SemLoc sig) (O : CellTallies nD τ sig Unit)
    (h : ∀ g u, 0 < O g u → g.1.2 = .tc ∧ lv ((c : Thread nD τ), sm) () < lv g u) :
    (levAts L lv : sProp 𝕄) ⊢ MayWait (c : Thread nD τ) sm () O :=
  MayOwe.of_cut (L := L) (lev := lv) (lv ((c : Thread nD τ), sm) ()) (fun p hp => by rw [Finset.mem_singleton.mp hp, L_tc]; exact Finset.mem_singleton_self _)
    (fun g u hg => by unfold L; rw [if_pos (h g u hg).1]; exact Finset.mem_singleton_self _)
    (fun p hp => by rw [Finset.mem_singleton.mp hp])
    (fun g u hg => (h g u hg).2)

/-- A wait below the level of the next copy is allowed while the later copies are owed. -/
theorem mayWait_recvOwes (c : Dev nD) (sm : SemLoc sig) (n : ℕ) (h : lv ((c : Thread nD τ), sm) () < 1 + n) :
    (levAts L lv : sProp 𝕄) ⊢ MayWait (c : Thread nD τ) sm () (recvOwes c n) :=
  mayWait_of c sm _ fun g u hg => by
    obtain ⟨k, hk, rfl⟩ := recvOwes_pos hg
    exact ⟨rfl, by rw [lv_recv]; omega⟩

/-- A wait for a local copy is allowed while everything is owed. -/
theorem mayWait_sigOwes (c : Dev nD) (q : DmaSem sig) (h : kOf recvS (.dma q) = none) :
    (levAts L lv : sProp 𝕄) ⊢ MayWait (c : Thread nD τ) (.dma q) () (sigOwes c 0) :=
  mayWait_of c _ _ fun g u hg => by
    rcases sigOwes_pos hg with ⟨k, hk, rfl⟩ | ⟨j, rfl⟩
    · exact ⟨rfl, by rw [lv_recv, lv_local c q h]; omega⟩
    · exact ⟨rfl, by rw [lv_bar, lv_local c q h]; omega⟩

end Cert.KP
-- ==== Proof.Steps.lean ====
/-
  One lemma for each kind of step the kernel takes: starting and finishing a copy of a block of `x` or of `w`, reading a
  block, storing a staged block or the running sum, sending a staged block, waiting for one to arrive or to have left, and
  the conditional barrier signal. Each is stated at the offsets as numbers, for any continuation of the program.
-/
module

public import proofs.«01_k».proof.Proof.Cells

@[expose] public section

set_option maxRecDepth 16384

noncomputable section

namespace Cert.KP

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-- The run takes no variants. -/
abbrev 𝒱₀ : Variants := Variants.none

/-- Device `c`'s program `p` runs to `Q`. -/
abbrev wpc (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

/-! ## The buffers -/

/-- The argument `x`, whole. -/
abbrev xA : Memref sig .tc .hbm S4096x512 .f32 := Memref.whole main_arg0
/-- The argument `w`, whole. -/
abbrev wA : Memref sig .tc .hbm S4096x2048 .f32 := Memref.whole main_arg1
/-- The output's buffer, whole. -/
abbrev oM : Memref sig .tc .vmem S512x2048 .f32 := Memref.whole cc0_stg0_0
/-- The buffer that `x` is fetched into, whole. -/
abbrev xM : Memref sig .tc .vmem S4096x512 .f32 := Memref.whole cc0_scratch0
/-- The staging buffer, whole. -/
abbrev sM : Memref sig .tc .vmem S4096x512 .bf16 := Memref.whole cc0_scratch1
/-- The landing buffer, whole. -/
abbrev cM : Memref sig .tc .vmem S4096x512 .bf16 := Memref.whole cc0_scratch2
/-- The buffer of `w` blocks, whole. -/
abbrev wM : Memref sig .tc .vmem S2x512x2048 .f32 := Memref.whole cc0_scratch6

/-- The 512 rows at an offset, as a rectangle of a 4096 × 512 buffer; and 256 rows. -/
abbrev r512 (off : Fin 2 → ℕ) (inb : ∀ a, off a + S512x512.size a ≤ S4096x512.size a) : Rect S4096x512 := Rect.unit (s := S4096x512) off S512x512.size inb
/-- 256 whole rows of a 4096 × 512 buffer. -/
abbrev r256 (off : Fin 2 → ℕ) (inb : ∀ a, off a + S256x512.size a ≤ S4096x512.size a) : Rect S4096x512 := Rect.unit (s := S4096x512) off S256x512.size inb
/-- 512 whole rows of `w`. -/
abbrev rw512 (off : Fin 2 → ℕ) (inb : ∀ a, off a + S512x2048.size a ≤ S4096x2048.size a) : Rect S4096x2048 := Rect.unit (s := S4096x2048) off S512x2048.size inb
/-- One slot of the buffer of `w` blocks. -/
abbrev rslot (off : Fin 3 → ℕ) (inb : ∀ a, off a + S1x512x2048.size a ≤ S2x512x2048.size a) : Rect S2x512x2048 := Rect.unit (s := S2x512x2048) off S1x512x2048.size inb

/-- What a core owes, its waits left open. -/
def OW (c : Dev nD) (O : CellTallies nD τ sig Unit) : sProp 𝕄 := iprop(∃ W : Waits sig Unit, owes (c : Thread nD τ) O W)

/-! ## The elements under the slices -/

/-- The elements of a slice of 512 rows of the argument `x`. -/
theorem set_xA {off : Fin 2 → ℕ} {lo : ℕ} (h : off = ![lo, 0]) {inb h1} : (xA.slice (r512 off inb) h1).view.set = rows lo 512 :=
  (View.set_slice_whole main_arg0 _).trans (rect_rows512 h inb)
/-- The elements of a slice of 512 rows of the buffer of `x`. -/
theorem set_xM {off : Fin 2 → ℕ} {lo : ℕ} (h : off = ![lo, 0]) {inb h1} : (xM.slice (r512 off inb) h1).view.set = rows lo 512 :=
  (View.set_slice_whole cc0_scratch0 _).trans (rect_rows512 h inb)
/-- The elements of a slice of 512 rows of the staging buffer. -/
theorem set_sM {off : Fin 2 → ℕ} {lo : ℕ} (h : off = ![lo, 0]) {inb h1} : (sM.slice (r512 off inb) h1).view.set = rows lo 512 :=
  (View.set_slice_whole cc0_scratch1 _).trans (rect_rows512 h inb)
/-- The elements of a slice of 512 rows of the landing buffer. -/
theorem set_cM {off : Fin 2 → ℕ} {lo : ℕ} (h : off = ![lo, 0]) {inb h1} : (cM.slice (r512 off inb) h1).view.set = rows lo 512 :=
  (View.set_slice_whole cc0_scratch2 _).trans (rect_rows512 h inb)
/-- The elements of a slice of 256 rows of the staging buffer. -/
theorem set_sM' {off : Fin 2 → ℕ} {lo : ℕ} (h : off = ![lo, 0]) {inb h1} : (sM.slice (r256 off inb) h1).view.set = rows lo 256 :=
  (View.set_slice_whole cc0_scratch1 _).trans (rect_rows256 h inb)
/-- The elements of a slice of 256 rows of the landing buffer. -/
theorem set_cM' {off : Fin 2 → ℕ} {lo : ℕ} (h : off = ![lo, 0]) {inb h1} : (cM.slice (r256 off inb) h1).view.set = rows lo 256 :=
  (View.set_slice_whole cc0_scratch2 _).trans (rect_rows256 h inb)
/-- The elements of a slice of 512 rows of `w`. -/
theorem set_wA {off : Fin 2 → ℕ} {lo : ℕ} (h : off = ![lo, 0]) {inb h1} : (wA.slice (rw512 off inb) h1).view.set = wrows lo :=
  (View.set_slice_whole main_arg1 _).trans (rect_wrows h inb)
/-- The elements of a slot. -/
theorem set_wM (k : ℕ) {inb h1 h2} : ((wM.slice (rslot ![k, 0, 0] inb) h1).squeeze S512x2048 h2).view.set = wslot k :=
  (Memref.set_view_squeeze _ _).trans ((View.set_slice_whole cc0_scratch6 _).trans (rect_wslot k inb))

/-! ## Contents through views -/

/-- Writing `w` through a view makes the buffer agree, on the view, with any contents the view reads as `w`. -/
theorem write_agrees {κ : Kind} {sp : Space} {s : Shape} {e : EltTy} {v : View sig κ sp s e} (f' fd : v.ty.Contents (Elt F))
    (w : s.Idx → Elt F e) (h : v.read (Elt F) f' = w) : ∀ i ∈ v.set, v.write (Elt F) fd w Finset.univ i = f' i := by
  intro i hi
  obtain ⟨x, -, rfl⟩ := Finset.mem_map.mp hi
  rw [View.write_emb_of_mem _ _ (Finset.mem_univ x), ← h, View.read_apply]
  simp

/-! ## Copies of blocks of `x` -/

/-- The credit of the fetch of a block of `x`. -/
def NX : ℕ := (xM.slice (r512 ![0, 0] (by decide)) (fun _ => rfl)).view.dmaCredit
/-- That credit is positive. -/
theorem NX_pos : 0 < NX := View.dmaCredit_pos _ (by decide)

/-- Block `b` of `x` on its way into the device's working memory. -/
def xFly (c b : Dev nD) : sProp 𝕄 :=
  Transfers.Flight EC (c : Thread nD τ) (.dma (xS b)) () NX iprop(XP c (512 * b.val) 512 (XV m c) ∗ XA m c (512 * b.val) 512)

/-- A landed block of `x` is the argument's block. -/
theorem landed_x (c : Dev nD) (f : S4096x512.Idx → Elt F .f32) {off : Fin 2 → ℕ} {lo : ℕ} (h : off = ![lo, 0]) {inb h1 h2} :
    ((((c : Thread nD τ).loc cc0_scratch0) ↦[rows lo 512]{fullShare} ((xM.slice (r512 off inb) h2).view.write (Elt F) f ((xA.slice (r512 off inb) h1).view.read (Elt F) (XV m c)) Finset.univ)) : sProp 𝕄)
      = ((c : Thread nD τ).loc cc0_scratch0) ↦[rows lo 512]{fullShare} XV m c :=
  pointsTo_congr fun i hi => write_agrees (v := (xM.slice (r512 off inb) h2).view) (XV m c) f _ rfl i (by rw [set_xM h]; exact hi)

/-- The fetch of a block of `x` starts: the block and its place are in flight. -/
theorem x_start (c b : Dev nD) {so : Fin 1 → ℕ} {off : Fin 2 → ℕ} (hso : so = ![b.val]) (hoff : off = ![512 * b.val, 0])
    {sinb : ∀ a, so a + S1.size a ≤ S8.size a} {inb : ∀ a, off a + S512x512.size a ≤ S4096x512.size a} {h1 h2 h3 hs hd ht}
    {f : S4096x512.Idx → Elt F .f32} {α : Type} {k : PUnit → Prog (TpuEff nD τ sig (Elt F) Λ₀ .tc) α} {Q : α → sProp 𝕄} :
    XP c (512 * b.val) 512 f
      ⊢ iprop(XA m c (512 * b.val) 512 -∗ semVal ((c : Thread nD τ), .dma (xS b)) 0 -∗ (xFly m c b -∗ wpc c (k ⟨⟩) Q)
        -∗ wpc c (.op (.enqueueDma (xA.slice (r512 off inb) h1) (.here (xM.slice (r512 off inb) h2))
            (.dma ((cc0_scratch5.slice (Rect.unit (s := S8) so S1.size sinb)).squeeze S_ h3).sem) hs hd ht) k) Q) := by
  subst hso hoff
  iintro HX HA HV Hk
  iapply (Transfers.wp_dmaLocal EC 𝒱₀ (c : Thread nD τ) none (src := xA.slice (r512 ![512 * b.val, 0] inb) h1)
    (dst := xM.slice (r512 ![512 * b.val, 0] inb) h2) (sm := .dma (xS b)) (q := fullShare) (fs := XV m c) (fd := f)
    (Sd := rows (512 * b.val) 512) () NX rfl NX_pos
    (set_xM rfl).subset) $$ [HX HA HV]
  · isplitl [HA]
    · unfold XA; rw [set_xA rfl]; iexact HA
    isplitl [HX]; · unfold XP; iexact HX
    iexact HV
  iintro HF
  iapply Hk
  unfold xFly
  iapply (Transfers.Flight_mono EC (c : Thread nD τ) (D' := iprop(XP c (512 * b.val) 512 (XV m c) ∗ XA m c (512 * b.val) 512)) ?_) $$ HF
  iintro ⟨Hd, Hs⟩
  isplitl [Hd]
  · unfold XP
    iapply (Entails.of_eq (landed_x m c f rfl)) $$ Hd
  · unfold XA; rw [set_xA rfl]; iexact Hs

/-- The wait for a block of `x`: the block has landed. -/
theorem x_wait (c b : Dev nD) {so : Fin 1 → ℕ} {off : Fin 2 → ℕ} (hso : so = ![b.val])
    {sinb : ∀ a, so a + S1.size a ≤ S8.size a} {inb : ∀ a, off a + S512x512.size a ≤ S4096x512.size a} {h1 h2 h3 hs hd}
    {n : ℕ} {α : Type} {k : PUnit → Prog (TpuEff nD τ sig (Elt F) Λ₀ .tc) α} {Q : α → sProp 𝕄} :
    (levAts L lv : sProp 𝕄)
      ⊢ iprop(xFly m c b -∗ OW c (recvOwes c n)
        -∗ (iprop(XP c (512 * b.val) 512 (XV m c) ∗ XA m c (512 * b.val) 512 ∗ semVal ((c : Thread nD τ), .dma (xS b)) 0 ∗ OW c (recvOwes c n)) -∗ wpc c (k ⟨⟩) Q)
        -∗ wpc c (.op (.waitDma2 ((cc0_scratch5.slice (Rect.unit (s := S8) so S1.size sinb)).squeeze S_ h3).sem
            (xA.slice (r512 off inb) h1) (xM.slice (r512 off inb) h2) hs hd) k) Q) := by
  subst hso
  unfold xFly OW
  iintro Hl HF ⟨%W, HO⟩ Hk
  iapply (Transfers.wp_waitLocalO EC 𝒱₀ (c : Thread nD τ) none (sem := xS b) (srcw := xA.slice (r512 off inb) h1) (dstw := xM.slice (r512 off inb) h2)
    (hsrc := hs) (hdst := hd) () (N := NX) rfl
    (D := iprop(XP c (512 * b.val) 512 (XV m c) ∗ XA m c (512 * b.val) 512)) (O := recvOwes c n) (W := W)) $$ [Hl HF HO]
  · isplitl [HF]; · iexact HF
    isplitl [HO]; · iexact HO
    iapply (mayWait_recvOwes c (.dma (xS b)) n (by rw [lv_local c _ (kOf_recv_x b)]; omega)) $$ Hl
  iintro ⟨⟨HX, HA⟩, HV, HO⟩
  iapply Hk
  isplitl [HX]; · iexact HX
  isplitl [HA]; · iexact HA
  isplitl [HV]; · iexact HV
  iexists _; iexact HO

/-- Reading block `b` of `x` out of the working memory. -/
theorem read_x (c b : Dev nD) {off : Fin 2 → ℕ} (h : off = ![512 * b.val, 0]) {inb} :
    (xM.access (r512 off inb)).read (Elt F) (XV m c) = xblk m c b := by
  subst h
  funext j
  show XV m c ((xM.access (r512 ![512 * b.val, 0] inb)).emb j) = _
  unfold xblk
  congr 1
  refine Shape.idx_ext₂ ?_ ?_
  · exact (ValueKit.view_emb_slice_whole_unit_val cc0_scratch0 ![512 * b.val, 0] S512x512.size inb j 0)
  · exact (ValueKit.view_emb_slice_whole_unit_val cc0_scratch0 ![512 * b.val, 0] S512x512.size inb j 1).trans (Nat.zero_add _)

/-- A load of a landed block of `x` reads it. -/
theorem x_load (c b : Dev nD) {off : Fin 2 → ℕ} (hoff : off = ![512 * b.val, 0]) {inb : ∀ a, off a + S512x512.size a ≤ S4096x512.size a} {hl}
    {α : Type} {k : (S512x512.Idx → Elt F .f32) → Prog (TpuEff nD τ sig (Elt F) Λ₀ .tc) α} {Q : α → sProp 𝕄} :
    XP c (512 * b.val) 512 (XV m c)
      ⊢ iprop((XP c (512 * b.val) 512 (XV m c) -∗ wpc c (k (xblk m c b)) Q)
        -∗ wpc c (.op (.load xM (r512 off inb).toLoadRect hl) k) Q) := by
  unfold XP
  rw [← read_x m c b hoff (inb := inb)]
  exact wp_load_rect 𝒱₀ (c : Thread nD τ) none Set.univ (m := xM) (r := r512 off inb) (S := rows (512 * b.val) 512)
    ((View.set_slice_whole cc0_scratch0 _).trans (rect_rows512 hoff inb)).subset

/-! ## The staging buffer -/

/-- A read of the staging buffer whose value is not used. -/
theorem s_load (c : Dev nD) (lo : ℕ) {off : Fin 2 → ℕ} (hoff : off = ![lo, 0]) {inb : ∀ a, off a + S512x512.size a ≤ S4096x512.size a} {hl}
    {f : S4096x512.Idx → Elt F .bf16}
    {α : Type} {k : (S512x512.Idx → Elt F .bf16) → Prog (TpuEff nD τ sig (Elt F) Λ₀ .tc) α} {Q : α → sProp 𝕄} :
    SP c lo 512 f
      ⊢ iprop((SP c lo 512 f -∗ wpc c (k ((sM.access (r512 off inb)).read (Elt F) f)) Q)
        -∗ wpc c (.op (.load sM (r512 off inb).toLoadRect hl) k) Q) := by
  unfold SP
  exact wp_load_rect 𝒱₀ (c : Thread nD τ) none Set.univ (m := sM) (r := r512 off inb) (S := rows lo 512)
    ((View.set_slice_whole cc0_scratch1 _).trans (rect_rows512 hoff inb)).subset

/-- The elements that a store of 512 rows into the staging buffer writes. -/
theorem access_set_s {off : Fin 2 → ℕ} {lo : ℕ} (h : off = ![lo, 0]) {inb} : (sM.access (r512 off inb)).set = rows lo 512 :=
  (View.set_slice_whole cc0_scratch1 _).trans (rect_rows512 h inb)

/-- The staged block reads as the rounded block of `x`. -/
theorem read_s (c b : Dev nD) {off : Fin 2 → ℕ} (h : off = ![512 * b.val, 0]) {inb} :
    (sM.access (r512 off inb)).read (Elt F) (XB m c) = truncf (s := S512x512) .bf16 (xblk m c b) bitsLt_bf16_f32 := by
  subst h
  funext j
  show XB m c ((sM.access (r512 ![512 * b.val, 0] inb)).emb j) = _
  unfold XB xblk truncf
  congr 2
  refine Shape.idx_ext₂ ?_ ?_
  · exact (ValueKit.view_emb_slice_whole_unit_val cc0_scratch1 ![512 * b.val, 0] S512x512.size inb j 0)
  · exact (ValueKit.view_emb_slice_whole_unit_val cc0_scratch1 ![512 * b.val, 0] S512x512.size inb j 1).trans (Nat.zero_add _)

/-- A store of a rounded block into the staging buffer. -/
theorem s_store (c b : Dev nD) {off : Fin 2 → ℕ} (hoff : off = ![512 * b.val, 0]) {inb : ∀ a, off a + S512x512.size a ≤ S4096x512.size a} {hx hm}
    {f : S4096x512.Idx → Elt F .bf16} {w : S512x512.Idx → Elt F .bf16} (hw : w = truncf (s := S512x512) .bf16 (xblk m c b) bitsLt_bf16_f32)
    {α : Type} {k : PUnit → Prog (TpuEff nD τ sig (Elt F) Λ₀ .tc) α} {Q : α → sProp 𝕄} :
    SP c (512 * b.val) 512 f
      ⊢ iprop((SP c (512 * b.val) 512 (XB m c) -∗ wpc c (k ⟨⟩) Q)
        -∗ wpc c (.op (.store sM (r512 off inb) w Finset.univ hx hm) k) Q) := by
  have e : SP c (512 * b.val) 512 (XB m c) = ((((c : Thread nD τ).loc cc0_scratch1) ↦[rows (512 * b.val) 512]{fullShare} ((sM.access (r512 off inb)).write (Elt F) f w Finset.univ)) : sProp 𝕄) :=
    (pointsTo_congr fun i hi => write_agrees (v := sM.access (r512 off inb)) (XB m c) f w ((read_s m c b hoff).trans hw.symm) i (by rw [access_set_s hoff]; exact hi)).symm
  rw [e]
  unfold SP
  exact wp_store 𝒱₀ (c : Thread nD τ) none Set.univ (m := sM) (r := r512 off inb) (Mk := Finset.univ) (S := rows (512 * b.val) 512)
    ((View.set_slice_whole cc0_scratch1 _).trans (rect_rows512 hoff inb)).subset

/-! ## The cells' invariants -/

/-- The invariant of one cell, and that its round has begun. -/
def cI (g : GSem nD τ sig) : sProp 𝕄 := iprop((∃ κ : ℕ, cellInv ER (sch m) κ g) ∗ reached ER g 0)
/-- A cell's invariant may be used again and again. -/
instance cI_persistent (g : GSem nD τ sig) : BI.Persistent (cI m g) := by unfold cI; infer_instance

/-- The cells of one device: its barrier cell, then the send cells of copies 1 … 8, then their receive cells. -/
def csem (i : Fin 17) : SemLoc sig :=
  if i.val = 0 then .reg barS else if i.val ≤ 8 then .dma (sendS (Fin.ofNat 9 i.val)) else .dma (recvS (Fin.ofNat 9 (i.val - 8)))
/-- The cells of the protocol, listed by device and number. -/
abbrev kcell (p : Dev nD × Fin 17) : GSem nD τ sig := ((p.1 : Thread nD τ), csem p.2)

/-- The invariants of all cells of all devices. -/
def INV : sProp 𝕄 := bigSep Finset.univ fun p : Dev nD × Fin 17 => cI m (kcell p)
/-- The invariants of all cells may be used again and again. -/
instance INV_persistent : BI.Persistent (INV m) := by unfold INV; infer_instance

/-- The barrier cells are among the cells. -/
theorem INV_bar (c : Dev nD) : INV m ⊢ cI m (barCell c) :=
  bigSep_elim (Finset.mem_univ ((c, 0) : Dev nD × Fin 17)) (Φ := fun p => cI m (kcell p))
/-- The numbers of the send semaphores. -/
theorem csem_send : ∀ k : Fin 9, 1 ≤ k.val → csem (Fin.ofNat 17 k.val) = .dma (sendS k) := by decide
/-- The numbers of the receive semaphores. -/
theorem csem_recv : ∀ k : Fin 9, 1 ≤ k.val → csem (Fin.ofNat 17 (k.val + 8)) = .dma (recvS k) := by decide
/-- The send cells are among the cells. -/
theorem INV_send (c : Dev nD) (k : Fin 9) (hk : 1 ≤ k.val) : INV m ⊢ cI m (sendCell c k) := by
  have h := bigSep_elim (Finset.mem_univ ((c, Fin.ofNat 17 k.val) : Dev nD × Fin 17)) (Φ := fun p => cI m (kcell p))
  unfold kcell at h
  rw [csem_send k hk] at h
  exact h
/-- The receive cells are among the cells. -/
theorem INV_recv (c : Dev nD) (k : Fin 9) (hk : 1 ≤ k.val) : INV m ⊢ cI m (recvCell c k) := by
  have h := bigSep_elim (Finset.mem_univ ((c, Fin.ofNat 17 (k.val + 8)) : Dev nD × Fin 17)) (Φ := fun p => cI m (kcell p))
  unfold kcell at h
  rw [csem_recv k hk] at h
  exact h

/-! ## Sending and receiving -/

/-- What pays for copy `k`: the duty of the sender's own cell and that of the receiver's. -/
def sendTok (c : Dev nD) (k : Fin 9) : sProp 𝕄 :=
  iprop(dutyTok ER (sendCell c k) 0 0 ∗ dutyTok ER (recvCell (up c (hop k)) k) 0 0)

/-- The rows of slot `k` come from the device as far back as copy `k` goes. -/
theorem up_dn_div (c : Dev nD) (k : Fin 9) (t : ℕ) (ht : t < mlen k) : dn (up c (hop k)) ((clo k + t) / 512) = c := by
  have e : (clo k + t) / 512 = hop k := by
    unfold mlen at ht
    unfold clo hop
    have := k.isLt
    split at ht <;> split <;> omega
  rw [e]; exact dn_up_hop c k

/-- Where row `t` of copy `k` comes from. -/
theorem src_row (c : Dev nD) (k : Fin 9) (t : ℕ) (ht : t < mlen k) : 512 * (up c (hop k)).val + (clo k + t) % 512 = slo c k + t := by
  unfold mlen at ht
  unfold slo clo
  have := k.isLt
  split at ht <;> split <;> split <;> omega

/-- The receiver's slot holds, row by row, the sender's block. -/
theorem CM_send (c : Dev nD) (k : Fin 9) (t : ℕ) (ht : t < mlen k) (i j : S4096x512.Idx) (hi : (i 0).val = clo k + t) (hj : (j 0).val = slo c k + t)
    (hij : (i 1).val = (j 1).val) : CM m (up c (hop k)) i = XB m c j := by
  unfold CM
  have e1 : dn (up c (hop k)) ((i 0).val / 512) = c := by rw [hi]; exact up_dn_div c k t ht
  have e2 : (ix2 ⟨512 * (up c (hop k)).val + (i 0).val % 512, by have := val_lt (up c (hop k)); omega⟩ (i 1) : S4096x512.Idx) = j := by
    refine Shape.idx_ext₂ ?_ ?_
    · show 512 * (up c (hop k)).val + (i 0).val % 512 = (j 0).val
      rw [hi, hj]; exact src_row c k t ht
    · exact hij
  rw [e1, e2]

/-- A whole block staged by `c` is what its receiver's slot is to hold. -/
theorem read_c512 (c : Dev nD) (k : Fin 9) (hk : k.val ≤ 6) {soff doff : Fin 2 → ℕ} (hs : soff = ![slo c k, 0]) (hd : doff = ![clo k, 0]) {sinb dinb h1 h2} :
    (cM.slice (r512 doff dinb) h2).view.read (Elt F) (CM m (up c (hop k))) = (sM.slice (r512 soff sinb) h1).view.read (Elt F) (XB m c) := by
  subst hs hd
  funext j
  have hj : (j 0).val < 512 := (j 0).isLt
  refine CM_send m c k (j 0).val (by unfold mlen; rw [if_pos hk]; exact hj) _ _ ?_ ?_ ?_
  · exact (ValueKit.view_emb_slice_whole_unit_val cc0_scratch2 ![clo k, 0] S512x512.size dinb j 0)
  · exact (ValueKit.view_emb_slice_whole_unit_val cc0_scratch1 ![slo c k, 0] S512x512.size sinb j 0)
  · exact (ValueKit.view_emb_slice_whole_unit_val cc0_scratch2 ![clo k, 0] S512x512.size dinb j 1).trans
      (ValueKit.view_emb_slice_whole_unit_val cc0_scratch1 ![slo c k, 0] S512x512.size sinb j 1).symm

/-- A half block staged by `c` is what its receiver's half slot is to hold. -/
theorem read_c256 (c : Dev nD) (k : Fin 9) {soff doff : Fin 2 → ℕ} (hs : soff = ![slo c k, 0]) (hd : doff = ![clo k, 0]) {sinb dinb h1 h2} :
    (cM.slice (r256 doff dinb) h2).view.read (Elt F) (CM m (up c (hop k))) = (sM.slice (r256 soff sinb) h1).view.read (Elt F) (XB m c) := by
  subst hs hd
  funext j
  have hj : (j 0).val < 256 := (j 0).isLt
  refine CM_send m c k (j 0).val (by unfold mlen; split <;> omega) _ _ ?_ ?_ ?_
  · exact (ValueKit.view_emb_slice_whole_unit_val cc0_scratch2 ![clo k, 0] S256x512.size dinb j 0)
  · exact (ValueKit.view_emb_slice_whole_unit_val cc0_scratch1 ![slo c k, 0] S256x512.size sinb j 0)
  · exact (ValueKit.view_emb_slice_whole_unit_val cc0_scratch2 ![clo k, 0] S256x512.size dinb j 1).trans
      (ValueKit.view_emb_slice_whole_unit_val cc0_scratch1 ![slo c k, 0] S256x512.size sinb j 1).symm

/-- Sending copy `k`, a whole block of 512 rows. -/
theorem send512 (c : Dev nD) (k : Fin 9) (hk1 : 1 ≤ k.val) (hk : k.val ≤ 6) {d : Dev nD} (hdev : d = up c (hop k))
    {so ro : Fin 1 → ℕ} (hso : so = ![k.val]) (hro : ro = ![k.val]) {soff doff : Fin 2 → ℕ} (hsoff : soff = ![slo c k, 0]) (hdoff : doff = ![clo k, 0])
    {soinb : ∀ a, so a + S1.size a ≤ S9.size a} {roinb : ∀ a, ro a + S1.size a ≤ S9.size a}
    {sinb : ∀ a, soff a + S512x512.size a ≤ S4096x512.size a} {dinb : ∀ a, doff a + S512x512.size a ≤ S4096x512.size a} {h1 h2 h3 h4 hsc hs hd ht}
    {f : S4096x512.Idx → Elt F .bf16}
    {α : Type} {kk : PUnit → Prog (TpuEff nD τ sig (Elt F) Λ₀ .tc) α} {Q : α → sProp 𝕄} :
    INV m ⊢ iprop(SP c (slo c k) 512 (XB m c) -∗ CP (up c (hop k)) (clo k) 512 f -∗ sendTok c k -∗ OW c (recvOwes c k.val)
        -∗ (iprop(cred (tallyAt (sendCell c k) () (msgN k)) ∗ OW c (recvOwes c (k.val + 1))) -∗ wpc c (kk ⟨⟩) Q)
        -∗ wpc c (.op (.enqueueDma (sM.slice (r512 soff sinb) h1) (.remote (Dev.tc d) (cM.slice (r512 doff dinb) h2)
            (.dma ((cc0_scratch3.slice (Rect.unit (s := S9) so S1.size soinb)).squeeze S_ h3).sem) hsc)
            (.dma ((cc0_scratch4.slice (Rect.unit (s := S9) ro S1.size roinb)).squeeze S_ h4).sem) hs hd ht) kk) Q) := by
  subst hdev hso hro
  have hm : mlen k = 512 := if_pos hk
  iintro #HI HS HC Htok HO Hk
  unfold OW sendTok
  icases HO with ⟨%W, HO⟩
  icases Htok with ⟨Ht1, Ht2⟩
  ihave Hs := (INV_send m c k hk1) $$ HI
  ihave Hr := (INV_recv m (up c (hop k)) k hk1) $$ HI
  unfold cI
  icases Hs with ⟨⟨%κ₁, #HIs⟩, #Hrs⟩
  icases Hr with ⟨⟨%κ₂, #HIr⟩, #Hrr⟩
  iapply (Rounds.wp_send_pointsTo 𝒱₀ ER (sch m) (c : Thread nD τ) none (c' := ((up c (hop k) : Dev nD) : Thread nD τ))
      (src := sM.slice (r512 soff sinb) h1) (dst := cM.slice (r512 doff dinb) h2) (sS := .dma (sendS k)) (sem := .dma (recvS k))
      (hsrc := hs) (hdst := hd) (hsem := ht)
      (fs := XB m c) (fd := f)
      (κ₁ := κ₁) (κ₂ := κ₂) (r₁ := 0) (r₂ := 0) (d₁ := 0) (d₂ := 0) (q := fullShare)
      (by rw [duties_send]; exact Finset.mem_singleton_self _) (by rw [duties_recv]; exact Finset.mem_singleton_self _)
      () () (msgN k) ((credit_comm512 doff dinb).trans (if_pos hk).symm) (amount_send m c k 0) (amount_recv m (up c (hop k)) k 0)
      (O₀ := recvOwes c k.val) (recvOwes c (k.val + 1)) (recvOwes_succ c k) (W := W)
      (by rw [payload_send]; unfold sendPay SP; rw [set_sM hsoff, hm])
      (by rw [payload_recv]; unfold recvPay CP; rw [set_cM hdoff, hm]
          exact Entails.of_eq (pointsTo_congr fun i hi => write_agrees (v := (cM.slice (r512 doff dinb) h2).view) (CM m (up c (hop k))) f _
            (read_c512 m c k hk hsoff hdoff) i (by rw [set_cM hdoff]; exact hi)))) $$ [HS HC Ht1 Ht2 HO]
  · isplitr; · iexact HIs
    isplitr; · iexact HIr
    isplitl [HS]; · unfold SP; rw [set_sM hsoff]; iexact HS
    isplitl [HC]; · unfold CP; rw [set_cM hdoff]; iexact HC
    isplitl [HO]; · iexact HO
    isplitl [Ht1]; · iexact Ht1
    isplitr; · iexact Hrs
    isplitl [Ht2]; · iexact Ht2
    iexact Hrr
  iintro ⟨Hc, HO⟩
  iapply Hk
  isplitl [Hc]; · iexact Hc
  iexists _; iexact HO

/-- Sending copy `k`, half a block. -/
theorem send256 (c : Dev nD) (k : Fin 9) (hk : 7 ≤ k.val) {d : Dev nD} (hdev : d = up c (hop k))
    {so ro : Fin 1 → ℕ} (hso : so = ![k.val]) (hro : ro = ![k.val]) {soff doff : Fin 2 → ℕ} (hsoff : soff = ![slo c k, 0]) (hdoff : doff = ![clo k, 0])
    {soinb : ∀ a, so a + S1.size a ≤ S9.size a} {roinb : ∀ a, ro a + S1.size a ≤ S9.size a}
    {sinb : ∀ a, soff a + S256x512.size a ≤ S4096x512.size a} {dinb : ∀ a, doff a + S256x512.size a ≤ S4096x512.size a} {h1 h2 h3 h4 hsc hs hd ht}
    {f : S4096x512.Idx → Elt F .bf16}
    {α : Type} {kk : PUnit → Prog (TpuEff nD τ sig (Elt F) Λ₀ .tc) α} {Q : α → sProp 𝕄} :
    INV m ⊢ iprop(SP c (slo c k) 256 (XB m c) -∗ CP (up c (hop k)) (clo k) 256 f -∗ sendTok c k -∗ OW c (recvOwes c k.val)
        -∗ (iprop(cred (tallyAt (sendCell c k) () (msgN k)) ∗ OW c (recvOwes c (k.val + 1))) -∗ wpc c (kk ⟨⟩) Q)
        -∗ wpc c (.op (.enqueueDma (sM.slice (r256 soff sinb) h1) (.remote (Dev.tc d) (cM.slice (r256 doff dinb) h2)
            (.dma ((cc0_scratch3.slice (Rect.unit (s := S9) so S1.size soinb)).squeeze S_ h3).sem) hsc)
            (.dma ((cc0_scratch4.slice (Rect.unit (s := S9) ro S1.size roinb)).squeeze S_ h4).sem) hs hd ht) kk) Q) := by
  subst hdev hso hro
  have hm : mlen k = 256 := if_neg (by omega)
  have hk1 : 1 ≤ k.val := by omega
  iintro #HI HS HC Htok HO Hk
  unfold OW sendTok
  icases HO with ⟨%W, HO⟩
  icases Htok with ⟨Ht1, Ht2⟩
  ihave Hs := (INV_send m c k hk1) $$ HI
  ihave Hr := (INV_recv m (up c (hop k)) k hk1) $$ HI
  unfold cI
  icases Hs with ⟨⟨%κ₁, #HIs⟩, #Hrs⟩
  icases Hr with ⟨⟨%κ₂, #HIr⟩, #Hrr⟩
  iapply (Rounds.wp_send_pointsTo 𝒱₀ ER (sch m) (c : Thread nD τ) none (c' := ((up c (hop k) : Dev nD) : Thread nD τ))
      (src := sM.slice (r256 soff sinb) h1) (dst := cM.slice (r256 doff dinb) h2) (sS := .dma (sendS k)) (sem := .dma (recvS k))
      (hsrc := hs) (hdst := hd) (hsem := ht)
      (fs := XB m c) (fd := f)
      (κ₁ := κ₁) (κ₂ := κ₂) (r₁ := 0) (r₂ := 0) (d₁ := 0) (d₂ := 0) (q := fullShare)
      (by rw [duties_send]; exact Finset.mem_singleton_self _) (by rw [duties_recv]; exact Finset.mem_singleton_self _)
      () () (msgN k) ((credit_comm256 doff dinb).trans (if_neg (by omega)).symm) (amount_send m c k 0) (amount_recv m (up c (hop k)) k 0)
      (O₀ := recvOwes c k.val) (recvOwes c (k.val + 1)) (recvOwes_succ c k) (W := W)
      (by rw [payload_send]; unfold sendPay SP; rw [set_sM' hsoff, hm])
      (by rw [payload_recv]; unfold recvPay CP; rw [set_cM' hdoff, hm]
          exact Entails.of_eq (pointsTo_congr fun i hi => write_agrees (v := (cM.slice (r256 doff dinb) h2).view) (CM m (up c (hop k))) f _
            (read_c256 m c k hsoff hdoff) i (by rw [set_cM' hdoff]; exact hi)))) $$ [HS HC Ht1 Ht2 HO]
  · isplitr; · iexact HIs
    isplitr; · iexact HIr
    isplitl [HS]; · unfold SP; rw [set_sM' hsoff]; iexact HS
    isplitl [HC]; · unfold CP; rw [set_cM' hdoff]; iexact HC
    isplitl [HO]; · iexact HO
    isplitl [Ht1]; · iexact Ht1
    isplitr; · iexact Hrs
    isplitl [Ht2]; · iexact Ht2
    iexact Hrr
  iintro ⟨Hc, HO⟩
  iapply Hk
  isplitl [Hc]; · iexact Hc
  iexists _; iexact HO

/-- Waiting for copy `k` to arrive: the landed rows, and the cell's counter back at zero. -/
theorem recv_wait (c : Dev nD) (k : Fin 9) (hk1 : 1 ≤ k.val) (n : ℕ) (hn : k.val < n)
    {ro : Fin 1 → ℕ} (hro : ro = ![k.val]) {roinb : ∀ a, ro a + S1.size a ≤ S9.size a} {h4}
    {s : Shape} {src : Memref sig .tc .vmem s .bf16} {dst : Memref sig .tc .vmem s .bf16} {hs hd} (hN : dst.view.dmaCredit = msgN k)
    {α : Type} {kk : PUnit → Prog (TpuEff nD τ sig (Elt F) Λ₀ .tc) α} {Q : α → sProp 𝕄} :
    INV m ⊢ iprop(levAts L lv -∗ cred (tallyAt (recvCell c k) () (msgN k)) -∗ atPos ER (recvCell c k) 0 ∅ 0 -∗ OW c (recvOwes c n)
        -∗ (iprop(CP c (clo k) (mlen k) (CM m c) ∗ semVal (recvCell c k) 0 ∗ OW c (recvOwes c n)) -∗ wpc c (kk ⟨⟩) Q)
        -∗ wpc c (.op (.waitDma2 ((cc0_scratch4.slice (Rect.unit (s := S9) ro S1.size roinb)).squeeze S_ h4).sem src dst hs hd) kk) Q) := by
  subst hro
  iintro #HI Hl Hc Hat HO Hk
  unfold OW
  icases HO with ⟨%W, HO⟩
  ihave Hr := (INV_recv m c k hk1) $$ HI
  unfold cI
  icases Hr with ⟨⟨%κ, #HIr⟩, #Hrr⟩
  iapply (Rounds.wp_wait_rest_token 𝒱₀ ER (sch m) (c : Thread nD τ) none (κ := κ) (sm := .dma (recvS k)) (k' := msgN k)
      (by rw [← hN]; exact wpE_waitDma2_eq 𝒱₀ (c : Thread nD τ) none Set.univ) (Set.mem_univ _) () (O := recvOwes c n) (W := W) (R := 0) (m := 0) (T := ∅)
      (by rw [Nat.zero_add, expect_recv])) $$ [Hc HO Hat Hl]
  · isplitr; · iexact HIr
    isplitl [Hc]; · iexact Hc
    isplitl [HO]; · iexact HO
    isplitl [Hl]; · iapply (mayWait_recvOwes c (.dma (recvS k)) n (by rw [lv_recv]; omega)) $$ Hl
    iexact Hat
  iintro ⟨HO, Hat, -, Hpay⟩
  ihave Hp := (Entails.of_eq (rest_recv m c k)) $$ Hpay
  imod (Rounds.cell_close ER (sch m) (Set.mem_univ κ) (fun h => h) (R := 0 + 1) (duties_later m (recvCell c k))) $$ [Hat] with Hz
  · isplitr; · iexact HIr
    iexact Hat
  iapply Hk
  isplitl [Hp]; · unfold recvPay; iexact Hp
  isplitl [Hz]; · iexact Hz
  iexists _; iexact HO

/-- Waiting for copy `k` to have left: the staged rows again, and the cell's counter back at zero. -/
theorem send_wait (c : Dev nD) (k : Fin 9) (hk1 : 1 ≤ k.val)
    {ro : Fin 1 → ℕ} (hro : ro = ![k.val]) {roinb : ∀ a, ro a + S1.size a ≤ S9.size a} {h4}
    {s : Shape} {src : Memref sig .tc .vmem s .bf16} {dst : Memref sig .tc .vmem s .bf16} {hs hd} (hN : dst.view.dmaCredit = msgN k)
    {α : Type} {kk : PUnit → Prog (TpuEff nD τ sig (Elt F) Λ₀ .tc) α} {Q : α → sProp 𝕄} :
    INV m ⊢ iprop(cred (tallyAt (sendCell c k) () (msgN k)) -∗ atPos ER (sendCell c k) 0 ∅ 0 -∗ OW c 0
        -∗ (iprop(SP c (slo c k) (mlen k) (XB m c) ∗ semVal (sendCell c k) 0 ∗ OW c 0) -∗ wpc c (kk ⟨⟩) Q)
        -∗ wpc c (.op (.waitDma2 ((cc0_scratch3.slice (Rect.unit (s := S9) ro S1.size roinb)).squeeze S_ h4).sem src dst hs hd) kk) Q) := by
  subst hro
  iintro #HI Hc Hat HO Hk
  unfold OW
  icases HO with ⟨%W, HO⟩
  ihave Hr := (INV_send m c k hk1) $$ HI
  unfold cI
  icases Hr with ⟨⟨%κ, #HIr⟩, #Hrr⟩
  iapply (Rounds.wp_wait_rest_token 𝒱₀ ER (sch m) (c : Thread nD τ) none (κ := κ) (sm := .dma (sendS k)) (k' := msgN k)
      (by rw [← hN]; exact wpE_waitDma2_eq 𝒱₀ (c : Thread nD τ) none Set.univ) (Set.mem_univ _) () (O := 0) (W := W) (R := 0) (m := 0) (T := ∅)
      (by rw [Nat.zero_add, expect_send])) $$ [Hc HO Hat]
  · isplitr; · iexact HIr
    isplitl [Hc]; · iexact Hc
    isplitl [HO]; · iexact HO
    isplitr; · rw [MayWait_zero]; iempintro
    iexact Hat
  iintro ⟨HO, Hat, -, Hpay⟩
  ihave Hp := (Entails.of_eq (rest_send m c k)) $$ Hpay
  imod (Rounds.cell_close ER (sch m) (Set.mem_univ κ) (fun h => h) (R := 0 + 1) (duties_later m (sendCell c k))) $$ [Hat] with Hz
  · isplitr; · iexact HIr
    iexact Hat
  iapply Hk
  isplitl [Hp]; · unfold sendPay; iexact Hp
  isplitl [Hz]; · iexact Hz
  iexists _; iexact HO

end Cert.KP
-- ==== Proof.Blocks.lean ====
/-
  The remaining kinds of step: copies of blocks of `w` and reads of them, reads of landed blocks, reads and stores of the
  running sum, the conditional barrier signals and the barrier wait.
-/
module

public import proofs.«01_k».proof.Proof.Steps

@[expose] public section

set_option maxRecDepth 16384

noncomputable section

namespace Cert.KP

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-! ## Copies of blocks of `w` -/

/-- The credit of the fetch of a row block of `w`. -/
def NW : ℕ := ((wM.slice (rslot ![0, 0, 0] (by decide)) (fun _ => rfl)).squeeze S512x2048 (by decide)).view.dmaCredit
/-- That credit is positive. -/
theorem NW_pos : 0 < NW := View.dmaCredit_pos _ (by decide)

/-- Block `b` of `w` on its way into slot `k`. -/
def wFly (c : Dev nD) (k : Fin 2) (b : Dev nD) : sProp 𝕄 :=
  Transfers.Flight EC (c : Thread nD τ) (.dma (wS k)) () NW iprop(WP c k.val (W3 m c b) ∗ WA m c (512 * b.val))

/-- A slot that holds row block `b` reads as the argument's row block. -/
theorem read_w (c b : Dev nD) (k : ℕ) {off : Fin 2 → ℕ} (h : off = ![512 * b.val, 0]) {inb inb' h1 h2 h4} :
    ((wM.slice (rslot ![k, 0, 0] inb') h2).squeeze S512x2048 h4).view.read (Elt F) (W3 m c b) = (wA.slice (rw512 off inb) h1).view.read (Elt F) (WV m c) := by
  subst h
  funext j
  show W3 m c b (((wM.slice (rslot ![k, 0, 0] inb') h2).squeeze S512x2048 h4).view.emb j) = WV m c ((wA.slice (rw512 ![512 * b.val, 0] inb) h1).view.emb j)
  have e : ((wM.slice (rslot ![k, 0, 0] inb') h2).squeeze S512x2048 h4).view.emb j
      = (wM.slice (rslot ![k, 0, 0] inb') h2).view.emb (Fin.cons ⟨0, Nat.one_pos⟩ j) :=
    congrArg (fun y => (wM.slice (rslot ![k, 0, 0] inb') h2).view.emb y) (Shape.reshapeEquiv_cons_one _ j)
  rw [e]
  unfold W3
  congr 1
  refine Shape.idx_ext₂ ?_ ?_
  · have e1 := ValueKit.view_emb_slice_whole_unit_val cc0_scratch6 ![k, 0, 0] S1x512x2048.size inb' (Fin.cons ⟨0, Nat.one_pos⟩ j) 1
    have e2 := ValueKit.view_emb_slice_whole_unit_val main_arg1 ![512 * b.val, 0] S512x2048.size inb j 0
    refine (congrArg (512 * b.val + ·) ?_).trans e2.symm
    exact e1.trans (Nat.zero_add _)
  · have e1 := ValueKit.view_emb_slice_whole_unit_val cc0_scratch6 ![k, 0, 0] S1x512x2048.size inb' (Fin.cons ⟨0, Nat.one_pos⟩ j) 2
    have e2 := ValueKit.view_emb_slice_whole_unit_val main_arg1 ![512 * b.val, 0] S512x2048.size inb j 1
    exact e1.trans e2.symm

/-- A landed row block of `w` is the argument's. -/
theorem landed_w (c b : Dev nD) (k : ℕ) (f : S2x512x2048.Idx → Elt F .f32) {off : Fin 2 → ℕ} (h : off = ![512 * b.val, 0]) {inb inb' h1 h2 h4} :
    ((((c : Thread nD τ).loc cc0_scratch6) ↦[wslot k]{fullShare} (((wM.slice (rslot ![k, 0, 0] inb') h2).squeeze S512x2048 h4).view.write (Elt F) f ((wA.slice (rw512 off inb) h1).view.read (Elt F) (WV m c)) Finset.univ)) : sProp 𝕄)
      = ((c : Thread nD τ).loc cc0_scratch6) ↦[wslot k]{fullShare} W3 m c b :=
  pointsTo_congr fun i hi => write_agrees (v := ((wM.slice (rslot ![k, 0, 0] inb') h2).squeeze S512x2048 h4).view) (W3 m c b) f _
    (read_w m c b k h) i (by rw [set_wM]; exact hi)

/-- The fetch of a row block of `w` into a slot starts. -/
theorem w_start (c : Dev nD) (k : Fin 2) (b : Dev nD) {so : Fin 1 → ℕ} {soff : Fin 3 → ℕ} {off : Fin 2 → ℕ} (hso : so = ![k.val]) (hsoff : soff = ![k.val, 0, 0])
    (hoff : off = ![512 * b.val, 0])
    {sinb : ∀ a, so a + S1.size a ≤ S2.size a} {inb' : ∀ a, soff a + S1x512x2048.size a ≤ S2x512x2048.size a} {inb : ∀ a, off a + S512x2048.size a ≤ S4096x2048.size a} {h1 h2 h3 h4 hs hd ht}
    {f : S2x512x2048.Idx → Elt F .f32} {α : Type} {kk : PUnit → Prog (TpuEff nD τ sig (Elt F) Λ₀ .tc) α} {Q : α → sProp 𝕄} :
    WP c k.val f
      ⊢ iprop(WA m c (512 * b.val) -∗ semVal ((c : Thread nD τ), .dma (wS k)) 0 -∗ (wFly m c k b -∗ wpc c (kk ⟨⟩) Q)
        -∗ wpc c (.op (.enqueueDma (wA.slice (rw512 off inb) h1) (.here ((wM.slice (rslot soff inb') h2).squeeze S512x2048 h4))
            (.dma ((cc0_scratch7.slice (Rect.unit (s := S2) so S1.size sinb)).squeeze S_ h3).sem) hs hd ht) kk) Q) := by
  subst hso hoff hsoff
  iintro HX HA HV Hk
  iapply (Transfers.wp_dmaLocal EC 𝒱₀ (c : Thread nD τ) none (src := wA.slice (rw512 ![512 * b.val, 0] inb) h1)
    (dst := (wM.slice (rslot ![k.val, 0, 0] inb') h2).squeeze S512x2048 h4) (sm := .dma (wS k)) (q := fullShare) (fs := WV m c) (fd := f)
    (Sd := wslot k.val) () NW rfl NW_pos (set_wM k.val).subset) $$ [HX HA HV]
  · isplitl [HA]; · unfold WA; rw [set_wA rfl]; iexact HA
    isplitl [HX]; · unfold WP; iexact HX
    iexact HV
  iintro HF
  iapply Hk
  unfold wFly
  iapply (Transfers.Flight_mono EC (c : Thread nD τ) (D' := iprop(WP c k.val (W3 m c b) ∗ WA m c (512 * b.val))) ?_) $$ HF
  iintro ⟨Hd, Hs⟩
  isplitl [Hd]
  · unfold WP
    iapply (Entails.of_eq (landed_w m c b k.val f rfl)) $$ Hd
  · unfold WA; rw [set_wA rfl]; iexact Hs

/-- The wait for a row block of `w`: it has landed in its slot. -/
theorem w_wait (c : Dev nD) (k : Fin 2) (b : Dev nD) {so : Fin 1 → ℕ} {soff : Fin 3 → ℕ} {off : Fin 2 → ℕ} (hso : so = ![k.val]) (hsoff : soff = ![k.val, 0, 0])
    {sinb : ∀ a, so a + S1.size a ≤ S2.size a} {inb' : ∀ a, soff a + S1x512x2048.size a ≤ S2x512x2048.size a} {inb : ∀ a, off a + S512x2048.size a ≤ S4096x2048.size a} {h1 h2 h3 h4 hs hd}
    {n : ℕ} {α : Type} {kk : PUnit → Prog (TpuEff nD τ sig (Elt F) Λ₀ .tc) α} {Q : α → sProp 𝕄} :
    (levAts L lv : sProp 𝕄)
      ⊢ iprop(wFly m c k b -∗ OW c (recvOwes c n)
        -∗ (iprop(WP c k.val (W3 m c b) ∗ WA m c (512 * b.val) ∗ semVal ((c : Thread nD τ), .dma (wS k)) 0 ∗ OW c (recvOwes c n)) -∗ wpc c (kk ⟨⟩) Q)
        -∗ wpc c (.op (.waitDma2 ((cc0_scratch7.slice (Rect.unit (s := S2) so S1.size sinb)).squeeze S_ h3).sem
            (wA.slice (rw512 off inb) h1) ((wM.slice (rslot soff inb') h2).squeeze S512x2048 h4) hs hd) kk) Q) := by
  subst hso hsoff
  unfold wFly OW
  iintro Hl HF ⟨%W, HO⟩ Hk
  iapply (Transfers.wp_waitLocalO EC 𝒱₀ (c : Thread nD τ) none (sem := wS k) (srcw := wA.slice (rw512 off inb) h1)
    (dstw := (wM.slice (rslot ![k.val, 0, 0] inb') h2).squeeze S512x2048 h4)
    (hsrc := hs) (hdst := hd) () (N := NW) rfl
    (D := iprop(WP c k.val (W3 m c b) ∗ WA m c (512 * b.val))) (O := recvOwes c n) (W := W)) $$ [Hl HF HO]
  · isplitl [HF]; · iexact HF
    isplitl [HO]; · iexact HO
    iapply (mayWait_recvOwes c (.dma (wS k)) n (by rw [lv_local c _ (kOf_recv_w k)]; omega)) $$ Hl
  iintro ⟨⟨HX, HA⟩, HV, HO⟩
  iapply Hk
  isplitl [HX]; · iexact HX
  isplitl [HA]; · iexact HA
  isplitl [HV]; · iexact HV
  iexists _; iexact HO

/-- A load of a slot reads its row block. -/
theorem read_wv (c b : Dev nD) (k : ℕ) {inb} : (wM.access (rslot ![k, 0, 0] inb)).read (Elt F) (W3 m c b) = wv m c b := by
  funext j
  show W3 m c b ((wM.access (rslot ![k, 0, 0] inb)).emb j) = _
  unfold W3 wv
  congr 1
  refine Shape.idx_ext₂ ?_ ?_
  · have e1 := ValueKit.view_emb_slice_whole_unit_val cc0_scratch6 ![k, 0, 0] S1x512x2048.size inb j 1
    exact congrArg (512 * b.val + ·) (e1.trans (Nat.zero_add _))
  · exact (ValueKit.view_emb_slice_whole_unit_val cc0_scratch6 ![k, 0, 0] S1x512x2048.size inb j 2).trans (Nat.zero_add _)

/-- The load of a landed row block of `w`. -/
theorem w_load (c : Dev nD) (k : Fin 2) (b : Dev nD) {soff : Fin 3 → ℕ} (hsoff : soff = ![k.val, 0, 0]) {inb : ∀ a, soff a + S1x512x2048.size a ≤ S2x512x2048.size a} {hl}
    {α : Type} {kk : (S1x512x2048.Idx → Elt F .f32) → Prog (TpuEff nD τ sig (Elt F) Λ₀ .tc) α} {Q : α → sProp 𝕄} :
    WP c k.val (W3 m c b)
      ⊢ iprop((WP c k.val (W3 m c b) -∗ wpc c (kk (wv m c b)) Q) -∗ wpc c (.op (.load wM (rslot soff inb).toLoadRect hl) kk) Q) := by
  subst hsoff
  unfold WP
  rw [← read_wv m c b k.val (inb := inb)]
  exact wp_load_rect 𝒱₀ (c : Thread nD τ) none Set.univ (m := wM) (r := rslot ![k.val, 0, 0] inb) (S := wslot k.val)
    ((View.set_slice_whole cc0_scratch6 _).trans (rect_wslot k.val inb)).subset

/-! ## Reads of landed blocks -/

/-- A load of slot `k` of the landing buffer reads the landed block. -/
theorem read_cmb (c : Dev nD) (k : Fin 8) {off : Fin 2 → ℕ} (h : off = ![512 * k.val, 0]) {inb} :
    (cM.access (r512 off inb)).read (Elt F) (CM m c) = cmb m c k := by
  subst h
  funext j
  show CM m c ((cM.access (r512 ![512 * k.val, 0] inb)).emb j) = _
  unfold cmb
  congr 1
  refine Shape.idx_ext₂ ?_ ?_
  · exact (ValueKit.view_emb_slice_whole_unit_val cc0_scratch2 ![512 * k.val, 0] S512x512.size inb j 0)
  · exact (ValueKit.view_emb_slice_whole_unit_val cc0_scratch2 ![512 * k.val, 0] S512x512.size inb j 1).trans (Nat.zero_add _)

/-- The load of a landed block. -/
theorem c_load (c : Dev nD) (k : Fin 8) {off : Fin 2 → ℕ} (hoff : off = ![512 * k.val, 0]) {inb : ∀ a, off a + S512x512.size a ≤ S4096x512.size a} {hl}
    {α : Type} {kk : (S512x512.Idx → Elt F .bf16) → Prog (TpuEff nD τ sig (Elt F) Λ₀ .tc) α} {Q : α → sProp 𝕄} :
    CP c (512 * k.val) 512 (CM m c)
      ⊢ iprop((CP c (512 * k.val) 512 (CM m c) -∗ wpc c (kk (cmb m c k)) Q)
        -∗ wpc c (.op (.load cM (r512 off inb).toLoadRect hl) kk) Q) := by
  unfold CP
  rw [← read_cmb m c k hoff (inb := inb)]
  exact wp_load_rect 𝒱₀ (c : Thread nD τ) none Set.univ (m := cM) (r := r512 off inb) (S := rows (512 * k.val) 512)
    ((View.set_slice_whole cc0_scratch2 _).trans (rect_rows512 hoff inb)).subset

/-- A load of half of the last slot reads the landed half. -/
theorem read_cmh (c : Dev nD) (h : Fin 2) {off : Fin 2 → ℕ} (hoff : off = ![3584 + 256 * h.val, 0]) {inb} :
    (cM.access (r256 off inb)).read (Elt F) (CM m c) = cmh m c h := by
  subst hoff
  funext j
  show CM m c ((cM.access (r256 ![3584 + 256 * h.val, 0] inb)).emb j) = _
  unfold cmh
  congr 1
  refine Shape.idx_ext₂ ?_ ?_
  · exact (ValueKit.view_emb_slice_whole_unit_val cc0_scratch2 ![3584 + 256 * h.val, 0] S256x512.size inb j 0)
  · exact (ValueKit.view_emb_slice_whole_unit_val cc0_scratch2 ![3584 + 256 * h.val, 0] S256x512.size inb j 1).trans (Nat.zero_add _)

/-- The load of a landed half block. -/
theorem c_load_half (c : Dev nD) (h : Fin 2) {off : Fin 2 → ℕ} (hoff : off = ![3584 + 256 * h.val, 0]) {inb : ∀ a, off a + S256x512.size a ≤ S4096x512.size a} {hl}
    {α : Type} {kk : (S256x512.Idx → Elt F .bf16) → Prog (TpuEff nD τ sig (Elt F) Λ₀ .tc) α} {Q : α → sProp 𝕄} :
    CP c (3584 + 256 * h.val) 256 (CM m c)
      ⊢ iprop((CP c (3584 + 256 * h.val) 256 (CM m c) -∗ wpc c (kk (cmh m c h)) Q)
        -∗ wpc c (.op (.load cM (r256 off inb).toLoadRect hl) kk) Q) := by
  unfold CP
  rw [← read_cmh m c h hoff (inb := inb)]
  exact wp_load_rect 𝒱₀ (c : Thread nD τ) none Set.univ (m := cM) (r := r256 off inb) (S := rows (3584 + 256 * h.val) 256)
    ((View.set_slice_whole cc0_scratch2 _).trans (rect_rows256 hoff inb)).subset

/-! ## The running sum -/

/-- The whole output, as a rectangle. -/
abbrev ro512 (inb : ∀ a, (![0, 0] : Fin 2 → ℕ) a + S512x2048.size a ≤ S512x2048.size a) : Rect S512x2048 := Rect.unit (s := S512x2048) ![0, 0] S512x2048.size inb
/-- Half of the output's rows. -/
abbrev ro256 (off : Fin 2 → ℕ) (inb : ∀ a, off a + S256x2048.size a ≤ S512x2048.size a) : Rect S512x2048 := Rect.unit (s := S512x2048) off S256x2048.size inb

/-- The load of the whole output. -/
theorem o_load (c : Dev nD) {inb hl} {f : S512x2048.Idx → Elt F .f32}
    {α : Type} {kk : (S512x2048.Idx → Elt F .f32) → Prog (TpuEff nD τ sig (Elt F) Λ₀ .tc) α} {Q : α → sProp 𝕄} :
    OP c f ⊢ iprop((OP c f -∗ wpc c (kk f) Q) -∗ wpc c (.op (.load oM (ro512 inb).toLoadRect hl) kk) Q) := by
  have e : (oM.access (ro512 inb)).read (Elt F) f = f := by
    funext j
    show f ((oM.access (ro512 inb)).emb j) = f j
    congr 1
    refine Shape.idx_ext₂ ?_ ?_
    · exact (ValueKit.view_emb_slice_whole_unit_val cc0_stg0_0 ![0, 0] S512x2048.size inb j 0).trans (Nat.zero_add _)
    · exact (ValueKit.view_emb_slice_whole_unit_val cc0_stg0_0 ![0, 0] S512x2048.size inb j 1).trans (Nat.zero_add _)
  unfold OP
  refine (?_ : ∀ v, (oM.access (ro512 inb)).read (Elt F) f = v → (OP c f ⊢ iprop((OP c f -∗ wpc c (kk v) Q) -∗ _))) f e
  rintro _ rfl
  exact wp_load_rect 𝒱₀ (c : Thread nD τ) none Set.univ (m := oM) (r := ro512 inb) (S := Finset.univ) (Finset.subset_univ _)

/-- A store of the whole output leaves what was stored. -/
theorem write_o (f : S512x2048.Idx → Elt F .f32) (w : S512x2048.Idx → Elt F .f32) {inb} : (oM.access (ro512 inb)).write (Elt F) f w Finset.univ = w := by
  funext i
  refine write_agrees (v := oM.access (ro512 inb)) w f w ?_ i ?_
  · funext j
    show w ((oM.access (ro512 inb)).emb j) = w j
    congr 1
    refine Shape.idx_ext₂ ?_ ?_
    · exact (ValueKit.view_emb_slice_whole_unit_val cc0_stg0_0 ![0, 0] S512x2048.size inb j 0).trans (Nat.zero_add _)
    · exact (ValueKit.view_emb_slice_whole_unit_val cc0_stg0_0 ![0, 0] S512x2048.size inb j 1).trans (Nat.zero_add _)
  · rw [show (oM.access (ro512 inb)).set = (ro512 inb).set from View.set_slice_whole cc0_stg0_0 _, Rect.mem_set_unit]
    intro a
    fin_cases a
    · exact ⟨Nat.zero_le _, by have := (i 0).isLt; simpa using this⟩
    · exact ⟨Nat.zero_le _, by have := (i 1).isLt; simpa using this⟩

/-- The store of the whole output. -/
theorem o_store (c : Dev nD) {inb hx hm} {f w : S512x2048.Idx → Elt F .f32}
    {α : Type} {kk : PUnit → Prog (TpuEff nD τ sig (Elt F) Λ₀ .tc) α} {Q : α → sProp 𝕄} :
    OP c f ⊢ iprop((OP c w -∗ wpc c (kk ⟨⟩) Q) -∗ wpc c (.op (.store oM (ro512 inb) w Finset.univ hx hm) kk) Q) := by
  refine (?_ : ∀ g, (oM.access (ro512 inb)).write (Elt F) f w Finset.univ = g → (OP c f ⊢ iprop((OP c g -∗ _) -∗ _))) w (write_o f w)
  rintro _ rfl
  exact wp_store 𝒱₀ (c : Thread nD τ) none Set.univ (m := oM) (r := ro512 inb) (Mk := Finset.univ) (S := Finset.univ) (Finset.subset_univ _)

/-- The sum with its upper half finished. -/
def MID (c : Dev nD) : S512x2048.Idx → Elt F .f32 := fun i => if (i 0).val < 256 then FIN m c i else OUT m c 6 i

/-- A load of half of the output reads those rows. -/
theorem read_half (f : S512x2048.Idx → Elt F .f32) (h : Fin 2) {off : Fin 2 → ℕ} (hoff : off = ![256 * h.val, 0]) {inb} :
    (oM.access (ro256 off inb)).read (Elt F) f = fun j => f (ix2 ⟨256 * h.val + (j 0).val, by have h' : (j 0).val < 256 := (j 0).isLt; omega⟩ (j 1)) := by
  subst hoff
  funext j
  show f ((oM.access (ro256 ![256 * h.val, 0] inb)).emb j) = _
  congr 1
  refine Shape.idx_ext₂ ?_ ?_
  · exact (ValueKit.view_emb_slice_whole_unit_val cc0_stg0_0 ![256 * h.val, 0] S256x2048.size inb j 0)
  · exact (ValueKit.view_emb_slice_whole_unit_val cc0_stg0_0 ![256 * h.val, 0] S256x2048.size inb j 1).trans (Nat.zero_add _)

/-- The elements of half of the output. -/
theorem mem_half (h : Fin 2) {off : Fin 2 → ℕ} (hoff : off = ![256 * h.val, 0]) {inb} (i : S512x2048.Idx) :
    i ∈ (oM.access (ro256 off inb)).set ↔ 256 * h.val ≤ (i 0).val ∧ (i 0).val < 256 * h.val + 256 := by
  subst hoff
  rw [show (oM.access (ro256 ![256 * h.val, 0] inb)).set = (ro256 ![256 * h.val, 0] inb).set from View.set_slice_whole cc0_stg0_0 _, Rect.mem_set_unit]
  constructor
  · intro H; exact H 0
  · intro H a
    fin_cases a
    · exact H
    · exact ⟨Nat.zero_le _, by have := (i 1).isLt; simpa using this⟩

/-- Storing half `h` changes that half alone. -/
theorem write_half (f f' : S512x2048.Idx → Elt F .f32) (h : Fin 2) (w : S256x2048.Idx → Elt F .f32) {off : Fin 2 → ℕ} (hoff : off = ![256 * h.val, 0]) {inb}
    (hw : ∀ j : S256x2048.Idx, f' (ix2 ⟨256 * h.val + (j 0).val, by have h' : (j 0).val < 256 := (j 0).isLt; omega⟩ (j 1)) = w j)
    (hrest : ∀ i : S512x2048.Idx, ¬ (256 * h.val ≤ (i 0).val ∧ (i 0).val < 256 * h.val + 256) → f i = f' i) :
    (oM.access (ro256 off inb)).write (Elt F) f w Finset.univ = f' := by
  funext i
  by_cases hi : i ∈ (oM.access (ro256 off inb)).set
  · exact write_agrees (v := oM.access (ro256 off inb)) f' f w ((read_half f' h hoff).trans (funext hw)) i hi
  · rw [View.write_of_not_mem _ _ _ (by rw [View.setOn_univ]; exact hi)]
    exact hrest i fun h' => hi ((mem_half h hoff i).mpr h')

/-- The load of half of the output. -/
theorem o_load_half (c : Dev nD) (h : Fin 2) {off : Fin 2 → ℕ} (hoff : off = ![256 * h.val, 0]) {inb hl} {f : S512x2048.Idx → Elt F .f32}
    {α : Type} {kk : (S256x2048.Idx → Elt F .f32) → Prog (TpuEff nD τ sig (Elt F) Λ₀ .tc) α} {Q : α → sProp 𝕄} :
    OP c f ⊢ iprop((OP c f -∗ wpc c (kk (fun j => f (ix2 ⟨256 * h.val + (j 0).val, by have h' : (j 0).val < 256 := (j 0).isLt; omega⟩ (j 1)))) Q)
      -∗ wpc c (.op (.load oM (ro256 off inb).toLoadRect hl) kk) Q) := by
  refine (?_ : ∀ v, (oM.access (ro256 off inb)).read (Elt F) f = v → (OP c f ⊢ iprop((OP c f -∗ wpc c (kk v) Q) -∗ _))) _ (read_half f h hoff)
  rintro _ rfl
  exact wp_load_rect 𝒱₀ (c : Thread nD τ) none Set.univ (m := oM) (r := ro256 off inb) (S := Finset.univ) (Finset.subset_univ _)

/-- The store of half of the output: the other half stays. -/
theorem o_store_half (c : Dev nD) (h : Fin 2) {off : Fin 2 → ℕ} (hoff : off = ![256 * h.val, 0]) {inb hx hm} {f f' : S512x2048.Idx → Elt F .f32} {w : S256x2048.Idx → Elt F .f32}
    (hw : ∀ j : S256x2048.Idx, f' (ix2 ⟨256 * h.val + (j 0).val, by have h' : (j 0).val < 256 := (j 0).isLt; omega⟩ (j 1)) = w j)
    (hrest : ∀ i : S512x2048.Idx, ¬ (256 * h.val ≤ (i 0).val ∧ (i 0).val < 256 * h.val + 256) → f i = f' i)
    {α : Type} {kk : PUnit → Prog (TpuEff nD τ sig (Elt F) Λ₀ .tc) α} {Q : α → sProp 𝕄} :
    OP c f ⊢ iprop((OP c f' -∗ wpc c (kk ⟨⟩) Q) -∗ wpc c (.op (.store oM (ro256 off inb) w Finset.univ hx hm) kk) Q) := by
  refine (?_ : ∀ g, (oM.access (ro256 off inb)).write (Elt F) f w Finset.univ = g → (OP c f ⊢ iprop((OP c g -∗ _) -∗ _))) f' (write_half f f' h w hoff hw hrest)
  rintro _ rfl
  exact wp_store 𝒱₀ (c : Thread nD τ) none Set.univ (m := oM) (r := ro256 off inb) (Mk := Finset.univ) (S := Finset.univ) (Finset.subset_univ _)

/-- The result is made of its two finished halves. -/
theorem FIN_half (c : Dev nD) (h : Fin 2) (j : S256x2048.Idx) :
    FIN m c (ix2 ⟨256 * h.val + (j 0).val, by have h' : (j 0).val < 256 := (j 0).isLt; omega⟩ (j 1)) = finh m c h j := by
  have hj : (j 0).val < 256 := (j 0).isLt
  have e1 : (⟨(256 * h.val + (j 0).val) / 256, by omega⟩ : Fin 2) = h := Fin.ext (by show (256 * h.val + (j 0).val) / 256 = h.val; omega)
  have e2 : (ix2 ⟨(256 * h.val + (j 0).val) % 256, Nat.mod_lt _ (by decide)⟩ (j 1) : S256x2048.Idx) = j :=
    Shape.idx_ext₂ (by show (256 * h.val + (j 0).val) % 256 = (j 0).val; omega) rfl
  show finh m c ⟨(256 * h.val + (j 0).val) / 256, _⟩ (ix2 ⟨(256 * h.val + (j 0).val) % 256, _⟩ (j 1)) = _
  rw [e1, e2]

/-! ## The barrier -/

set_option backward.proofsInPublic true in
/-- How far device `c` lies after device `j`. -/
def gap (c j : Dev nD) : Fin 8 := ⟨(c.val + 8 - j.val) % 8, Nat.mod_lt _ (by decide)⟩
/-- From `j`, `c` is as far as the gap says. -/
theorem up_gap : ∀ c j : Dev nD, up j (gap c j).val = c := by decide
/-- Between two devices the gap is not zero. -/
theorem gap_ne : ∀ c j : Dev nD, j ≠ c → gap c j ∈ (Finset.univ.erase 0 : Finset (Fin 8)) := by decide

/-- What device `c` signals device `j` with: the duty, and its landing slot `j` copies into. -/
def sigRes (c j : Dev nD) : sProp 𝕄 :=
  if j = c then iprop(emp) else iprop(dutyTok ER (barCell j) 0 (gap c j) ∗ ∃ f, CP (F := F) c (512 * (gap c j).val) 512 f)

/-- The conditional signal to device `j`, before a rest `K` of the program. -/
theorem sig_step (c j : Dev nD) (n n' : ℕ) (hn : n = j.val) (hn' : n' = j.val + 1) {cond : BitVec 1} {dv : ℕ} (hc : cond = 1#1 ↔ j ≠ c) (hdv : dv = j.val) {hlt : cond = 1#1 → dv < nD}
    {α : Type} {K : Prog (TpuEff nD τ sig (Elt F) Λ₀ .tc) α} {Q : α → sProp 𝕄} :
    INV m ⊢ iprop(sigRes c j -∗ OW c (sigOwes c n) -∗ (OW c (sigOwes c n') -∗ wpc c K Q)
      -∗ wpc c (if h : cond = 1#1 then (.op (.semSignal ((⟨dv, hlt h⟩ : Dev nD), Proc.tc) barS (1#32).toInt) fun _ => K) else K) Q) := by
  subst hdv hn hn'
  by_cases hj : j = c
  · rw [dif_neg (fun h => hc.mp h hj)]
    subst hj
    rw [sigOwes_skip]
    iintro - - HO Hk
    iapply Hk $$ HO
  · rw [dif_pos (hc.mpr hj)]
    unfold sigRes OW
    rw [if_neg hj]
    iintro #HI ⟨Ht, Hc⟩ ⟨%W, HO⟩ Hk
    ihave Hb := (INV_bar m j) $$ HI
    unfold cI
    icases Hb with ⟨⟨%κ, #HIb⟩, #Hrb⟩
    iapply (Rounds.wp_signal 𝒱₀ ER (sch m) (c : Thread nD τ) none (dst := (j : Thread nD τ)) (κ := κ)
      (d := gap c j) (by rw [duties_bar]; exact gap_ne c j hj) ((amount_bar m j (gap c j)).trans (by decide)) () (sigOwes c (j.val + 1)) (sigOwes_succ c j hj))
      $$ [HO Ht Hc]
    · isplitr; · iexact HIb
      isplitl [HO]; · iexact HO
      isplitl [Ht]; · iexact Ht
      isplitl [Hc]; · rw [payload_bar]; unfold barPay; rw [up_gap]; iexact Hc
      iexact Hrb
    iintro HO
    iapply Hk
    iexists _; iexact HO

/-- The barrier wait: the seven landing slots the device may copy into. -/
theorem bar_wait (c : Dev nD) {α : Type} {kk : PUnit → Prog (TpuEff nD τ sig (Elt F) Λ₀ .tc) α} {Q : α → sProp 𝕄} :
    INV m ⊢ iprop(levAts L lv -∗ cred (tallyAt (barCell c) () 7) -∗ atPos ER (barCell c) 0 ∅ 0 -∗ OW c (recvOwes c 1)
        -∗ (iprop((barPay c 1 ∗ barPay c 2 ∗ barPay c 3 ∗ barPay c 4 ∗ barPay c 5 ∗ barPay c 6 ∗ barPay c 7) ∗ semVal (barCell c) 0 ∗ OW c (recvOwes c 1)) -∗ wpc c (kk ⟨⟩) Q)
        -∗ wpc c (.op (.semWait barS (7#32).toInt) kk) Q) := by
  iintro #HI Hl Hc Hat HO Hk
  unfold OW
  icases HO with ⟨%W, HO⟩
  ihave Hr := (INV_bar m c) $$ HI
  unfold cI
  icases Hr with ⟨⟨%κ, #HIr⟩, #Hrr⟩
  iapply (Rounds.wp_wait_rest_token 𝒱₀ ER (sch m) (c : Thread nD τ) none (κ := κ)
      (wpE_semWait_eq 𝒱₀ (c : Thread nD τ) none Set.univ) (Set.mem_univ _) () (O := recvOwes c 1) (W := W) (R := 0) (m := 0) (T := ∅)
      (by rw [expect_bar]; decide)) $$ [Hc HO Hat Hl]
  · isplitr; · iexact HIr
    isplitl [Hc]; · iexact Hc
    isplitl [HO]; · iexact HO
    isplitl [Hl]; · iapply (mayWait_recvOwes c (.reg barS) 1 (by rw [lv_bar]; omega)) $$ Hl
    iexact Hat
  iintro ⟨HO, Hat, -, Hpay⟩
  ihave Hp := (Entails.of_eq (rest_bar m c)) $$ Hpay
  imod (Rounds.cell_close ER (sch m) (Set.mem_univ κ) (fun h => h) (R := 0 + 1) (duties_later m (barCell c))) $$ [Hat] with Hz
  · isplitr; · iexact HIr
    iexact Hat
  iapply Hk
  isplitl [Hp]; · iexact Hp
  isplitl [Hz]; · iexact Hz
  iexists _; iexact HO

end Cert.KP
-- ==== Proof.Moves.lean ====
/-
  The state of each block, slot and message of a device by name, and the steps between those states.
-/
module

public import proofs.«01_k».proof.Proof.Blocks

@[expose] public section

set_option maxRecDepth 16384

noncomputable section

namespace Cert.KP

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-! ## The offsets as numbers -/

/-- The semaphore index of the fetch of the block `r` places on. -/
theorem off1_eq : ∀ (d : Dev nD) (r : Fin 8), k0_off1 d (BitVec.ofNat 32 r.val) = ![(up d r.val).val] := by decide +kernel
/-- The rows of the block `r` places on. -/
theorem off2_eq : ∀ (d : Dev nD) (r : Fin 8), k0_off2 d (BitVec.ofNat 32 r.val) = ![512 * (up d r.val).val, 0] := by decide +kernel
/-- The rows of `w` of the device `s` places back. -/
theorem off3_eq : ∀ (d : Dev nD) (s : Fin 8), k0_off3 d (BitVec.ofNat 32 s.val) = ![512 * (dn d s.val).val, 0] := by decide +kernel
/-- The rows of the block that copy `1 + r` sends. -/
theorem off4_eq : ∀ (d : Dev nD) (r : Fin 7), k0_off4 d (BitVec.ofNat 32 (1 + r.val)) = ![512 * (up d (1 + r.val)).val, 0] := by decide +kernel
/-- The semaphore index of the fetch of the device's own block. -/
theorem off5_eq : ∀ d : Dev nD, k0_off5 d = ![(up d 0).val] := by decide +kernel
/-- The rows of the device's own block. -/
theorem off7_eq : ∀ d : Dev nD, k0_off7 d = ![512 * (up d 0).val, 0] := by decide +kernel
/-- The rows of the first half of the last block. -/
theorem off8_eq7 : ∀ d : Dev nD, k0_off8 d 0#32 = ![slo d 7, 0] := by decide +kernel
/-- The rows of the second half of the last block. -/
theorem off8_eq8 : ∀ d : Dev nD, k0_off8 d 256#32 = ![slo d 8, 0] := by decide +kernel
/-- Device 0 is signalled by the others. -/
theorem cond1_eq : ∀ d : Dev nD, k0_cond1 d = 1#1 ↔ (0 : Dev nD) ≠ d := by decide +kernel
/-- Device 1 is signalled by the others. -/
theorem cond2_eq : ∀ d : Dev nD, k0_cond2 d = 1#1 ↔ (1 : Dev nD) ≠ d := by decide +kernel
/-- Device 2 is signalled by the others. -/
theorem cond3_eq : ∀ d : Dev nD, k0_cond3 d = 1#1 ↔ (2 : Dev nD) ≠ d := by decide +kernel
/-- Device 3 is signalled by the others. -/
theorem cond4_eq : ∀ d : Dev nD, k0_cond4 d = 1#1 ↔ (3 : Dev nD) ≠ d := by decide +kernel
/-- Device 4 is signalled by the others. -/
theorem cond5_eq : ∀ d : Dev nD, k0_cond5 d = 1#1 ↔ (4 : Dev nD) ≠ d := by decide +kernel
/-- Device 5 is signalled by the others. -/
theorem cond6_eq : ∀ d : Dev nD, k0_cond6 d = 1#1 ↔ (5 : Dev nD) ≠ d := by decide +kernel
/-- Device 6 is signalled by the others. -/
theorem cond7_eq : ∀ d : Dev nD, k0_cond7 d = 1#1 ↔ (6 : Dev nD) ≠ d := by decide +kernel
/-- Device 7 is signalled by the others. -/
theorem cond8_eq : ∀ d : Dev nD, k0_cond8 d = 1#1 ↔ (7 : Dev nD) ≠ d := by decide +kernel
/-- Copy 1 goes one place on. -/
theorem dev9_eq : ∀ d : Dev nD, k0_dev9 d = (up d 1).val := by decide +kernel
/-- Copy 2 goes two places on. -/
theorem dev10_eq : ∀ d : Dev nD, k0_dev10 d = (up d 2).val := by decide +kernel
/-- Copy 3 goes three places on. -/
theorem dev11_eq : ∀ d : Dev nD, k0_dev11 d = (up d 3).val := by decide +kernel
/-- Copy 4 goes four places on. -/
theorem dev12_eq : ∀ d : Dev nD, k0_dev12 d = (up d 4).val := by decide +kernel
/-- Copy 5 goes five places on. -/
theorem dev13_eq : ∀ d : Dev nD, k0_dev13 d = (up d 5).val := by decide +kernel
/-- Copy 6 goes six places on. -/
theorem dev14_eq : ∀ d : Dev nD, k0_dev14 d = (up d 6).val := by decide +kernel
/-- Copy 7 goes seven places on. -/
theorem dev15_eq : ∀ d : Dev nD, k0_dev15 d = (up d 7).val := by decide +kernel
/-- Copy 8 goes seven places on. -/
theorem dev16_eq : ∀ d : Dev nD, k0_dev16 d = (up d 7).val := by decide +kernel
/-- No places on is the device itself. -/
theorem up_zero : ∀ c : Dev nD, up c 0 = c := by decide
/-- No places back is the device itself. -/
theorem dn_zero : ∀ c : Dev nD, dn c 0 = c := by decide

/-! ## The blocks of `x` -/

/-- The block `r` places ahead before its copy starts, while it is under way, and landed. -/
def X0 (c : Dev nD) (r : ℕ) : sProp 𝕄 :=
  iprop((∃ f, XP (F := F) c (512 * (up c r).val) 512 f) ∗ XA m c (512 * (up c r).val) 512 ∗ semVal ((c : Thread nD τ), .dma (xS (up c r))) 0)
/-- The block `r` places on, in flight. -/
def X1 (c : Dev nD) (r : ℕ) : sProp 𝕄 := xFly m c (up c r)
/-- The block `r` places on, landed, with its semaphore back at zero. -/
def X2 (c : Dev nD) (r : ℕ) : sProp 𝕄 :=
  iprop(XP c (512 * (up c r).val) 512 (XV m c) ∗ XA m c (512 * (up c r).val) 512 ∗ semVal ((c : Thread nD τ), .dma (xS (up c r))) 0)

/-- The fetch of the block `r` places on starts. -/
theorem xs (c : Dev nD) (r : ℕ) {so : Fin 1 → ℕ} {off : Fin 2 → ℕ} (hso : so = ![(up c r).val]) (hoff : off = ![512 * (up c r).val, 0])
    {sinb : ∀ a, so a + S1.size a ≤ S8.size a} {inb : ∀ a, off a + S512x512.size a ≤ S4096x512.size a} {h1 h2 h3 hs hd ht}
    {α : Type} {kk : PUnit → Prog (TpuEff nD τ sig (Elt F) Λ₀ .tc) α} {Q : α → sProp 𝕄} :
    X0 m c r ⊢ iprop((X1 m c r -∗ wpc c (kk ⟨⟩) Q)
        -∗ wpc c (.op (.enqueueDma (xA.slice (r512 off inb) h1) (.here (xM.slice (r512 off inb) h2))
            (.dma ((cc0_scratch5.slice (Rect.unit (s := S8) so S1.size sinb)).squeeze S_ h3).sem) hs hd ht) kk) Q) := by
  unfold X0 X1
  iintro ⟨⟨%f, HX⟩, HA, HV⟩
  iapply (x_start m c (up c r) hso hoff (sinb := sinb) (inb := inb) (f := f)) $$ HX HA HV

/-- The wait for the block `r` places on. -/
theorem xw (c : Dev nD) (r n : ℕ) {so : Fin 1 → ℕ} {off : Fin 2 → ℕ} (hso : so = ![(up c r).val])
    {sinb : ∀ a, so a + S1.size a ≤ S8.size a} {inb : ∀ a, off a + S512x512.size a ≤ S4096x512.size a} {h1 h2 h3 hs hd}
    {α : Type} {kk : PUnit → Prog (TpuEff nD τ sig (Elt F) Λ₀ .tc) α} {Q : α → sProp 𝕄} :
    (levAts L lv : sProp 𝕄) ⊢ iprop(X1 m c r -∗ OW c (recvOwes c n)
        -∗ (iprop(X2 m c r ∗ OW c (recvOwes c n)) -∗ wpc c (kk ⟨⟩) Q)
        -∗ wpc c (.op (.waitDma2 ((cc0_scratch5.slice (Rect.unit (s := S8) so S1.size sinb)).squeeze S_ h3).sem
            (xA.slice (r512 off inb) h1) (xM.slice (r512 off inb) h2) hs hd) kk) Q) := by
  unfold X1 X2
  iintro Hl HX HO Hk
  iapply (x_wait m c (up c r) hso (sinb := sinb) (inb := inb) (n := n)) $$ Hl HX HO
  iintro ⟨H1, H2, H3, HO⟩
  iapply Hk
  iframe H1 H2 H3 HO

/-- The load of the block `r` places on. -/
theorem xl (c : Dev nD) (r : ℕ) {off : Fin 2 → ℕ} (hoff : off = ![512 * (up c r).val, 0]) {inb : ∀ a, off a + S512x512.size a ≤ S4096x512.size a} {hl}
    {α : Type} {kk : (S512x512.Idx → Elt F .f32) → Prog (TpuEff nD τ sig (Elt F) Λ₀ .tc) α} {Q : α → sProp 𝕄} :
    X2 m c r ⊢ iprop((X2 m c r -∗ wpc c (kk (xblk m c (up c r))) Q) -∗ wpc c (.op (.load xM (r512 off inb).toLoadRect hl) kk) Q) := by
  unfold X2
  iintro ⟨H1, H2, H3⟩ Hk
  iapply (x_load m c (up c r) hoff (inb := inb)) $$ H1
  iintro H1
  iapply Hk
  iframe H1 H2 H3

/-! ## The staged messages -/

/-- The staging rows of the block `r` places ahead, not yet written; and message `k` staged. -/
def S0 (c : Dev nD) (r : ℕ) : sProp 𝕄 := iprop(∃ f, SP (F := F) c (512 * (up c r).val) 512 f)
/-- The staged rows of copy `k`. -/
def T (c : Dev nD) (k : Fin 9) : sProp 𝕄 := SP c (slo c k) (mlen k) (XB m c)

/-- A load of the block `r` places on of the staging buffer, whatever it holds. -/
theorem sl (c : Dev nD) (r : ℕ) {off : Fin 2 → ℕ} (hoff : off = ![512 * (up c r).val, 0]) {inb : ∀ a, off a + S512x512.size a ≤ S4096x512.size a} {hl}
    {α : Type} {kk : (S512x512.Idx → Elt F .bf16) → Prog (TpuEff nD τ sig (Elt F) Λ₀ .tc) α} {Q : α → sProp 𝕄} :
    S0 (F := F) c r ⊢ iprop((∀ v, S0 (F := F) c r -∗ wpc c (kk v) Q) -∗ wpc c (.op (.load sM (r512 off inb).toLoadRect hl) kk) Q) := by
  unfold S0
  iintro ⟨%f, H1⟩ Hk
  iapply (s_load c (512 * (up c r).val) hoff (inb := inb)) $$ H1
  iintro H1
  iapply Hk
  iexists f; iexact H1

/-- Where the source of a whole copy begins. -/
theorem slo_small (c : Dev nD) (k : Fin 9) (hk : k.val ≤ 6) : slo c k = 512 * (up c k.val).val := by
  unfold slo hop
  rw [Nat.min_eq_left (by omega), if_neg (by omega)]
  rfl
/-- Copies up to 6 move 512 rows. -/
theorem mlen_small (k : Fin 9) (hk : k.val ≤ 6) : mlen k = 512 := if_pos hk
/-- Copies 7 and 8 move 256 rows. -/
theorem mlen_big (k : Fin 9) (hk : 7 ≤ k.val) : mlen k = 256 := if_neg (by omega)
/-- Where the slot of a copy up to 7 begins. -/
theorem clo_small (k : Fin 9) (hk : k.val ≤ 7) : clo k = 512 * k.val := if_pos hk

/-- The store of a rounded block makes the staged rows of copy `k`. -/
theorem ss (c : Dev nD) (k : Fin 9) (r : ℕ) (hr : r = k.val) (hk : k.val ≤ 6) {off : Fin 2 → ℕ} (hoff : off = ![512 * (up c r).val, 0]) {inb : ∀ a, off a + S512x512.size a ≤ S4096x512.size a} {hx hm}
    {w : S512x512.Idx → Elt F .bf16} (hw : w = truncf (s := S512x512) .bf16 (xblk m c (up c r)) bitsLt_bf16_f32)
    {α : Type} {kk : PUnit → Prog (TpuEff nD τ sig (Elt F) Λ₀ .tc) α} {Q : α → sProp 𝕄} :
    S0 (F := F) c r ⊢ iprop((T m c k -∗ wpc c (kk ⟨⟩) Q) -∗ wpc c (.op (.store sM (r512 off inb) w Finset.univ hx hm) kk) Q) := by
  subst hr
  unfold S0 T
  rw [slo_small c k hk, mlen_small k hk]
  iintro ⟨%f, H1⟩
  iapply (s_store m c (up c k.val) hoff (inb := inb) hw) $$ H1

/-- 512 rows are two times 256. -/
theorem rows_halves (lo : ℕ) : rows lo 512 = rows lo 256 ∪ rows (lo + 256) 256 := by
  ext i
  rw [Finset.mem_union, mem_rows, mem_rows, mem_rows]
  omega
/-- The two halves have no row in common. -/
theorem rows_halves_disjoint (lo : ℕ) : Disjoint (rows lo 256) (rows (lo + 256) 256) := by
  rw [Finset.disjoint_left]
  intro i h h'
  rw [mem_rows] at h h'
  omega

/-- The seventh block is staged as two messages. -/
theorem stage_halves (c : Dev nD) : SP c (512 * (up c 7).val) 512 (XB m c) ⊢ iprop(T m c 7 ∗ T m c 8) := by
  unfold T SP
  rw [rows_halves]
  exact (pointsTo_union (rows_halves_disjoint _)).1

/-- The store of the last rounded block makes the staged rows of copies 7 and 8. -/
theorem ss7 (c : Dev nD) {off : Fin 2 → ℕ} (hoff : off = ![512 * (up c 7).val, 0]) {inb : ∀ a, off a + S512x512.size a ≤ S4096x512.size a} {hx hm}
    {w : S512x512.Idx → Elt F .bf16} (hw : w = truncf (s := S512x512) .bf16 (xblk m c (up c 7)) bitsLt_bf16_f32)
    {α : Type} {kk : PUnit → Prog (TpuEff nD τ sig (Elt F) Λ₀ .tc) α} {Q : α → sProp 𝕄} :
    S0 (F := F) c 7 ⊢ iprop((iprop(T m c 7 ∗ T m c 8) -∗ wpc c (kk ⟨⟩) Q) -∗ wpc c (.op (.store sM (r512 off inb) w Finset.univ hx hm) kk) Q) := by
  unfold S0
  iintro ⟨%f, H1⟩ Hk
  iapply (s_store m c (up c 7) hoff (inb := inb) hw) $$ H1
  iintro H1
  iapply Hk
  iapply (stage_halves m c) $$ H1

/-! ## The messages -/

/-- The landing slot of message `k` at its receiver. -/
def D0 (c : Dev nD) (k : Fin 9) : sProp 𝕄 := iprop(∃ f, CP (F := F) (up c (hop k)) (clo k) (mlen k) f)
/-- Message `k` sent: the credit of its leaving. -/
def Q1 (c : Dev nD) (k : Fin 9) : sProp 𝕄 := cred (tallyAt (sendCell c k) () (msgN k))
/-- What waiting for message `k` takes, and what it gives. -/
def R0 (c : Dev nD) (k : Fin 9) : sProp 𝕄 := iprop(cred (tallyAt (recvCell c k) () (msgN k)) ∗ atPos ER (recvCell c k) 0 ∅ 0)
/-- The landed rows of copy `k`. -/
def R1 (c : Dev nD) (k : Fin 9) : sProp 𝕄 := CP c (clo k) (mlen k) (CM m c)
/-- The receive semaphore of copy `k` at zero. -/
def RZ (c : Dev nD) (k : Fin 9) : sProp 𝕄 := semVal (recvCell c k) 0
/-- The position at message `k`'s leaving, and what waiting for it gives. -/
def P0 (c : Dev nD) (k : Fin 9) : sProp 𝕄 := atPos ER (sendCell c k) 0 ∅ 0
/-- The staged rows of copy `k`, back, and its send semaphore at zero. -/
def Z (c : Dev nD) (k : Fin 9) : sProp 𝕄 := iprop(T m c k ∗ semVal (sendCell c k) 0)

/-- Copy `k` of a whole block starts. -/
theorem sd (c : Dev nD) (k : Fin 9) (hk1 : 1 ≤ k.val) (hk : k.val ≤ 6) (n n' : ℕ) (hn : n = k.val) (hn' : n' = k.val + 1) {dv : ℕ} {hlt : dv < nD} (hdev : dv = (up c (hop k)).val)
    {so ro : Fin 1 → ℕ} (hso : so = ![k.val]) (hro : ro = ![k.val]) {soff doff : Fin 2 → ℕ} (hsoff : soff = ![512 * (up c k.val).val, 0]) (hdoff : doff = ![512 * k.val, 0])
    {soinb : ∀ a, so a + S1.size a ≤ S9.size a} {roinb : ∀ a, ro a + S1.size a ≤ S9.size a}
    {sinb : ∀ a, soff a + S512x512.size a ≤ S4096x512.size a} {dinb : ∀ a, doff a + S512x512.size a ≤ S4096x512.size a} {h1 h2 h3 h4 hsc hs hd ht}
    {α : Type} {kk : PUnit → Prog (TpuEff nD τ sig (Elt F) Λ₀ .tc) α} {Q : α → sProp 𝕄} :
    INV m ⊢ iprop(T m c k -∗ D0 (F := F) c k -∗ sendTok c k -∗ OW c (recvOwes c n)
        -∗ (iprop(Q1 c k ∗ OW c (recvOwes c n')) -∗ wpc c (kk ⟨⟩) Q)
        -∗ wpc c (.op (.enqueueDma (sM.slice (r512 soff sinb) h1) (.remote (Dev.tc (⟨dv, hlt⟩ : Dev nD)) (cM.slice (r512 doff dinb) h2)
            (.dma ((cc0_scratch3.slice (Rect.unit (s := S9) so S1.size soinb)).squeeze S_ h3).sem) hsc)
            (.dma ((cc0_scratch4.slice (Rect.unit (s := S9) ro S1.size roinb)).squeeze S_ h4).sem) hs hd ht) kk) Q) := by
  subst hn hn'
  unfold T D0 Q1
  rw [mlen_small k hk]
  iintro HI HT ⟨%f, HD⟩ Ht HO
  iapply (send512 m c k hk1 hk (Fin.ext hdev) hso hro (hsoff.trans (by rw [slo_small c k hk])) (hdoff.trans (by rw [clo_small k (by omega)])) (f := f)
    (soinb := soinb) (roinb := roinb) (sinb := sinb) (dinb := dinb)) $$ HI HT HD Ht HO

/-- Copy `k` of a half block starts. -/
theorem sdh (c : Dev nD) (k : Fin 9) (hk : 7 ≤ k.val) (n n' : ℕ) (hn : n = k.val) (hn' : n' = k.val + 1) {dv : ℕ} {hlt : dv < nD} (hdev : dv = (up c (hop k)).val)
    {so ro : Fin 1 → ℕ} (hso : so = ![k.val]) (hro : ro = ![k.val]) {soff doff : Fin 2 → ℕ} (hsoff : soff = ![slo c k, 0]) (hdoff : doff = ![clo k, 0])
    {soinb : ∀ a, so a + S1.size a ≤ S9.size a} {roinb : ∀ a, ro a + S1.size a ≤ S9.size a}
    {sinb : ∀ a, soff a + S256x512.size a ≤ S4096x512.size a} {dinb : ∀ a, doff a + S256x512.size a ≤ S4096x512.size a} {h1 h2 h3 h4 hsc hs hd ht}
    {α : Type} {kk : PUnit → Prog (TpuEff nD τ sig (Elt F) Λ₀ .tc) α} {Q : α → sProp 𝕄} :
    INV m ⊢ iprop(T m c k -∗ D0 (F := F) c k -∗ sendTok c k -∗ OW c (recvOwes c n)
        -∗ (iprop(Q1 c k ∗ OW c (recvOwes c n')) -∗ wpc c (kk ⟨⟩) Q)
        -∗ wpc c (.op (.enqueueDma (sM.slice (r256 soff sinb) h1) (.remote (Dev.tc (⟨dv, hlt⟩ : Dev nD)) (cM.slice (r256 doff dinb) h2)
            (.dma ((cc0_scratch3.slice (Rect.unit (s := S9) so S1.size soinb)).squeeze S_ h3).sem) hsc)
            (.dma ((cc0_scratch4.slice (Rect.unit (s := S9) ro S1.size roinb)).squeeze S_ h4).sem) hs hd ht) kk) Q) := by
  subst hn hn'
  unfold T D0 Q1
  rw [mlen_big k hk]
  iintro HI HT ⟨%f, HD⟩ Ht HO
  iapply (send256 m c k hk (Fin.ext hdev) hso hro hsoff hdoff (f := f)
    (soinb := soinb) (roinb := roinb) (sinb := sinb) (dinb := dinb)) $$ HI HT HD Ht HO

/-- The wait for the landing of a whole block. -/
theorem rw512_ (c : Dev nD) (k : Fin 9) (hk1 : 1 ≤ k.val) (hk : k.val ≤ 6) (n : ℕ) (hn : k.val < n)
    {ro : Fin 1 → ℕ} (hro : ro = ![k.val]) {roinb : ∀ a, ro a + S1.size a ≤ S9.size a} {h4}
    {off off' : Fin 2 → ℕ} {inb : ∀ a, off a + S512x512.size a ≤ S4096x512.size a} {inb' : ∀ a, off' a + S512x512.size a ≤ S4096x512.size a} {h5 h6 hs hd}
    {α : Type} {kk : PUnit → Prog (TpuEff nD τ sig (Elt F) Λ₀ .tc) α} {Q : α → sProp 𝕄} :
    INV m ⊢ iprop(levAts L lv -∗ R0 (F := F) c k -∗ OW c (recvOwes c n)
        -∗ (iprop(R1 m c k ∗ RZ c k ∗ OW c (recvOwes c n)) -∗ wpc c (kk ⟨⟩) Q)
        -∗ wpc c (.op (.waitDma2 ((cc0_scratch4.slice (Rect.unit (s := S9) ro S1.size roinb)).squeeze S_ h4).sem (sM.slice (r512 off inb) h5) (cM.slice (r512 off' inb') h6) hs hd) kk) Q) := by
  unfold R0 R1 RZ
  iintro HI Hl ⟨Hc, Ha⟩ HO
  iapply (recv_wait m c k hk1 n hn hro ((credit_comm512 off' inb').trans (if_pos (by omega)).symm) (roinb := roinb)) $$ HI Hl Hc Ha HO

/-- The wait for the landing of a half block. -/
theorem rw256_ (c : Dev nD) (k : Fin 9) (hk1 : 1 ≤ k.val) (hk : 7 ≤ k.val) (n : ℕ) (hn : k.val < n)
    {ro : Fin 1 → ℕ} (hro : ro = ![k.val]) {roinb : ∀ a, ro a + S1.size a ≤ S9.size a} {h4}
    {off off' : Fin 2 → ℕ} {inb : ∀ a, off a + S256x512.size a ≤ S4096x512.size a} {inb' : ∀ a, off' a + S256x512.size a ≤ S4096x512.size a} {h5 h6 hs hd}
    {α : Type} {kk : PUnit → Prog (TpuEff nD τ sig (Elt F) Λ₀ .tc) α} {Q : α → sProp 𝕄} :
    INV m ⊢ iprop(levAts L lv -∗ R0 (F := F) c k -∗ OW c (recvOwes c n)
        -∗ (iprop(R1 m c k ∗ RZ c k ∗ OW c (recvOwes c n)) -∗ wpc c (kk ⟨⟩) Q)
        -∗ wpc c (.op (.waitDma2 ((cc0_scratch4.slice (Rect.unit (s := S9) ro S1.size roinb)).squeeze S_ h4).sem (sM.slice (r256 off inb) h5) (cM.slice (r256 off' inb') h6) hs hd) kk) Q) := by
  unfold R0 R1 RZ
  iintro HI Hl ⟨Hc, Ha⟩ HO
  iapply (recv_wait m c k hk1 n hn hro ((credit_comm256 off' inb').trans (if_neg (by omega)).symm) (roinb := roinb)) $$ HI Hl Hc Ha HO

/-- The wait for the end of the send of a whole block. -/
theorem sw512 (c : Dev nD) (k : Fin 9) (hk1 : 1 ≤ k.val) (hk : k.val ≤ 6)
    {ro : Fin 1 → ℕ} (hro : ro = ![k.val]) {roinb : ∀ a, ro a + S1.size a ≤ S9.size a} {h4}
    {off off' : Fin 2 → ℕ} {inb : ∀ a, off a + S512x512.size a ≤ S4096x512.size a} {inb' : ∀ a, off' a + S512x512.size a ≤ S4096x512.size a} {h5 h6 hs hd}
    {α : Type} {kk : PUnit → Prog (TpuEff nD τ sig (Elt F) Λ₀ .tc) α} {Q : α → sProp 𝕄} :
    INV m ⊢ iprop(Q1 (F := F) c k -∗ P0 c k -∗ OW c (recvOwes c 9)
        -∗ (iprop(Z m c k ∗ OW c (recvOwes c 9)) -∗ wpc c (kk ⟨⟩) Q)
        -∗ wpc c (.op (.waitDma2 ((cc0_scratch3.slice (Rect.unit (s := S9) ro S1.size roinb)).squeeze S_ h4).sem (cM.slice (r512 off inb) h5) (sM.slice (r512 off' inb') h6) hs hd) kk) Q) := by
  unfold Q1 P0 Z T
  rw [recvOwes_nine]
  iintro HI Hc Ha HO Hk
  iapply (send_wait m c k hk1 hro ((credit_stage512 off' inb').trans (if_pos (by omega)).symm) (roinb := roinb)) $$ HI Hc Ha HO
  iintro ⟨H1, H2, HO⟩
  iapply Hk
  iframe H1 H2 HO

/-- The wait for the end of the send of a half block. -/
theorem sw256 (c : Dev nD) (k : Fin 9) (hk1 : 1 ≤ k.val) (hk : 7 ≤ k.val)
    {ro : Fin 1 → ℕ} (hro : ro = ![k.val]) {roinb : ∀ a, ro a + S1.size a ≤ S9.size a} {h4}
    {off off' : Fin 2 → ℕ} {inb : ∀ a, off a + S256x512.size a ≤ S4096x512.size a} {inb' : ∀ a, off' a + S256x512.size a ≤ S4096x512.size a} {h5 h6 hs hd}
    {α : Type} {kk : PUnit → Prog (TpuEff nD τ sig (Elt F) Λ₀ .tc) α} {Q : α → sProp 𝕄} :
    INV m ⊢ iprop(Q1 (F := F) c k -∗ P0 c k -∗ OW c (recvOwes c 9)
        -∗ (iprop(Z m c k ∗ OW c (recvOwes c 9)) -∗ wpc c (kk ⟨⟩) Q)
        -∗ wpc c (.op (.waitDma2 ((cc0_scratch3.slice (Rect.unit (s := S9) ro S1.size roinb)).squeeze S_ h4).sem (cM.slice (r256 off inb) h5) (sM.slice (r256 off' inb') h6) hs hd) kk) Q) := by
  unfold Q1 P0 Z T
  rw [recvOwes_nine]
  iintro HI Hc Ha HO Hk
  iapply (send_wait m c k hk1 hro ((credit_stage256 off' inb').trans (if_neg (by omega)).symm) (roinb := roinb)) $$ HI Hc Ha HO
  iintro ⟨H1, H2, HO⟩
  iapply Hk
  iframe H1 H2 HO

/-- The load of the block that copy `k` landed. -/
theorem cl (c : Dev nD) (k : Fin 9) (hk : k.val ≤ 6) {off : Fin 2 → ℕ} (hoff : off = ![512 * k.val, 0]) {inb : ∀ a, off a + S512x512.size a ≤ S4096x512.size a} {hl}
    {α : Type} {kk : (S512x512.Idx → Elt F .bf16) → Prog (TpuEff nD τ sig (Elt F) Λ₀ .tc) α} {Q : α → sProp 𝕄} :
    R1 m c k ⊢ iprop((R1 m c k -∗ wpc c (kk (cmb m c ⟨k.val % 8, Nat.mod_lt _ (by decide)⟩)) Q) -∗ wpc c (.op (.load cM (r512 off inb).toLoadRect hl) kk) Q) := by
  have e : k.val % 8 = k.val := Nat.mod_eq_of_lt (by omega)
  unfold R1
  rw [mlen_small k hk, clo_small k (by omega)]
  have h := c_load m c ⟨k.val % 8, Nat.mod_lt _ (by decide)⟩ (off := off) (hoff.trans (by rw [show ((⟨k.val % 8, Nat.mod_lt _ (by decide)⟩ : Fin 8)).val = k.val from e])) (inb := inb) (hl := hl) (kk := kk) (Q := Q)
  rw [show ((⟨k.val % 8, Nat.mod_lt _ (by decide)⟩ : Fin 8)).val = k.val from e] at h
  exact h

/-- The load of the first half of the last block. -/
theorem cl7 (c : Dev nD) {inb hl}
    {α : Type} {kk : (S256x512.Idx → Elt F .bf16) → Prog (TpuEff nD τ sig (Elt F) Λ₀ .tc) α} {Q : α → sProp 𝕄} :
    R1 m c 7 ⊢ iprop((R1 m c 7 -∗ wpc c (kk (cmh m c 0)) Q) -∗ wpc c (.op (.load cM (r256 ![3584, 0] inb).toLoadRect hl) kk) Q) :=
  c_load_half m c 0 rfl
/-- The load of the second half of the last block. -/
theorem cl8 (c : Dev nD) {inb hl}
    {α : Type} {kk : (S256x512.Idx → Elt F .bf16) → Prog (TpuEff nD τ sig (Elt F) Λ₀ .tc) α} {Q : α → sProp 𝕄} :
    R1 m c 8 ⊢ iprop((R1 m c 8 -∗ wpc c (kk (cmh m c 1)) Q) -∗ wpc c (.op (.load cM (r256 ![3840, 0] inb).toLoadRect hl) kk) Q) :=
  c_load_half m c 1 rfl

/-! ## The blocks of `w` -/

/-- The block of `w` that step `s` uses, in the operand. -/
def A (c : Dev nD) (s : ℕ) : sProp 𝕄 := WA m c (512 * (dn c s).val)
/-- A slot idle; with step `s`'s block on its way; with that block landed. -/
def W0 (c : Dev nD) (k : Fin 2) : sProp 𝕄 := iprop((∃ f, WP (F := F) c k.val f) ∗ semVal ((c : Thread nD τ), .dma (wS k)) 0)
/-- The row block of the device `s` places back in flight to slot `k`. -/
def W1 (c : Dev nD) (k : Fin 2) (s : ℕ) : sProp 𝕄 := wFly m c k (dn c s)
/-- The row block of the device `s` places back in slot `k`, with the slot's semaphore at zero. -/
def W2 (c : Dev nD) (k : Fin 2) (s : ℕ) : sProp 𝕄 := iprop(WP c k.val (W3 m c (dn c s)) ∗ semVal ((c : Thread nD τ), .dma (wS k)) 0)

/-- A slot whose block has been used is free. -/
theorem W2_W0 (c : Dev nD) (k : Fin 2) (s : ℕ) : W2 m c k s ⊢ W0 (F := F) c k := by
  unfold W2 W0
  iintro ⟨H1, H2⟩
  isplitl [H1]
  · iexists _; iexact H1
  iexact H2

/-- The fetch of the row block of the device `s` places back starts. -/
theorem ws (c : Dev nD) (k : Fin 2) (s : ℕ) {so : Fin 1 → ℕ} {soff : Fin 3 → ℕ} {off : Fin 2 → ℕ} (hso : so = ![k.val]) (hsoff : soff = ![k.val, 0, 0])
    (hoff : off = ![512 * (dn c s).val, 0])
    {sinb : ∀ a, so a + S1.size a ≤ S2.size a} {inb' : ∀ a, soff a + S1x512x2048.size a ≤ S2x512x2048.size a} {inb : ∀ a, off a + S512x2048.size a ≤ S4096x2048.size a} {h1 h2 h3 h4 hs hd ht}
    {α : Type} {kk : PUnit → Prog (TpuEff nD τ sig (Elt F) Λ₀ .tc) α} {Q : α → sProp 𝕄} :
    W0 (F := F) c k ⊢ iprop(A m c s -∗ (W1 m c k s -∗ wpc c (kk ⟨⟩) Q)
        -∗ wpc c (.op (.enqueueDma (wA.slice (rw512 off inb) h1) (.here ((wM.slice (rslot soff inb') h2).squeeze S512x2048 h4))
            (.dma ((cc0_scratch7.slice (Rect.unit (s := S2) so S1.size sinb)).squeeze S_ h3).sem) hs hd ht) kk) Q) := by
  unfold W0 A W1
  iintro ⟨⟨%f, HX⟩, HV⟩ HA
  iapply (w_start m c k (dn c s) hso hsoff hoff (sinb := sinb) (inb' := inb') (inb := inb) (f := f)) $$ HX HA HV

/-- The wait for the row block of the device `s` places back. -/
theorem ww (c : Dev nD) (k : Fin 2) (s n : ℕ) {so : Fin 1 → ℕ} {soff : Fin 3 → ℕ} {off : Fin 2 → ℕ} (hso : so = ![k.val]) (hsoff : soff = ![k.val, 0, 0])
    {sinb : ∀ a, so a + S1.size a ≤ S2.size a} {inb' : ∀ a, soff a + S1x512x2048.size a ≤ S2x512x2048.size a} {inb : ∀ a, off a + S512x2048.size a ≤ S4096x2048.size a} {h1 h2 h3 h4 hs hd}
    {α : Type} {kk : PUnit → Prog (TpuEff nD τ sig (Elt F) Λ₀ .tc) α} {Q : α → sProp 𝕄} :
    (levAts L lv : sProp 𝕄) ⊢ iprop(W1 m c k s -∗ OW c (recvOwes c n)
        -∗ (iprop(W2 m c k s ∗ A m c s ∗ OW c (recvOwes c n)) -∗ wpc c (kk ⟨⟩) Q)
        -∗ wpc c (.op (.waitDma2 ((cc0_scratch7.slice (Rect.unit (s := S2) so S1.size sinb)).squeeze S_ h3).sem
            (wA.slice (rw512 off inb) h1) ((wM.slice (rslot soff inb') h2).squeeze S512x2048 h4) hs hd) kk) Q) := by
  unfold W1 W2 A
  iintro Hl HX HO Hk
  iapply (w_wait m c k (dn c s) hso hsoff (sinb := sinb) (inb' := inb') (inb := inb) (n := n)) $$ Hl HX HO
  iintro ⟨H1, H2, H3, HO⟩
  iapply Hk
  iframe H1 H2 H3 HO

/-- The load of the row block of the device `s` places back. -/
theorem wl (c : Dev nD) (k : Fin 2) (s : ℕ) {soff : Fin 3 → ℕ} (hsoff : soff = ![k.val, 0, 0]) {inb : ∀ a, soff a + S1x512x2048.size a ≤ S2x512x2048.size a} {hl}
    {α : Type} {kk : (S1x512x2048.Idx → Elt F .f32) → Prog (TpuEff nD τ sig (Elt F) Λ₀ .tc) α} {Q : α → sProp 𝕄} :
    W2 m c k s ⊢ iprop((W2 m c k s -∗ wpc c (kk (wv m c (dn c s))) Q) -∗ wpc c (.op (.load wM (rslot soff inb).toLoadRect hl) kk) Q) := by
  unfold W2
  iintro ⟨H1, H2⟩ Hk
  iapply (w_load m c k (dn c s) hsoff (inb := inb)) $$ H1
  iintro H1
  iapply Hk
  iframe H1 H2

/-! ## The running sum -/

/-- The store of the output, its value named. -/
theorem os (c : Dev nD) {inb hx hm} {f w f' : S512x2048.Idx → Elt F .f32} (hw : w = f')
    {α : Type} {kk : PUnit → Prog (TpuEff nD τ sig (Elt F) Λ₀ .tc) α} {Q : α → sProp 𝕄} :
    OP c f ⊢ iprop((OP c f' -∗ wpc c (kk ⟨⟩) Q) -∗ wpc c (.op (.store oM (ro512 inb) w Finset.univ hx hm) kk) Q) := by
  subst hw
  exact o_store c

/-- The running sum begins with the device's own product. -/
theorem OUT_own (c : Dev nD) : k0_pay6 (xblk m c (up c 0)) (wv m c (dn c 0)) = OUT m c 0 := by
  rw [up_zero, dn_zero]; rfl

/-- The store of the finished upper half. -/
theorem osh0 (c : Dev nD) {inb hx hm} {w : S256x2048.Idx → Elt F .f32} (hw : w = finh m c 0)
    {α : Type} {kk : PUnit → Prog (TpuEff nD τ sig (Elt F) Λ₀ .tc) α} {Q : α → sProp 𝕄} :
    OP c (OUT m c 6) ⊢ iprop((OP c (MID m c) -∗ wpc c (kk ⟨⟩) Q) -∗ wpc c (.op (.store oM (ro256 ![0, 0] inb) w Finset.univ hx hm) kk) Q) := by
  refine o_store_half c 0 rfl (fun j => ?_) (fun i hi => ?_)
  · have h' : (j 0).val < 256 := (j 0).isLt
    have e := FIN_half m c 0 j
    rw [hw, ← e]
    unfold MID
    exact if_pos (by show 256 * 0 + (j 0).val < 256; omega)
  · unfold MID
    exact (if_neg (fun h => hi ⟨by show 256 * 0 ≤ _; omega, by show _ < 256 * 0 + 256; omega⟩)).symm

/-- The store of the finished lower half makes the result. -/
theorem osh1 (c : Dev nD) {inb hx hm} {w : S256x2048.Idx → Elt F .f32} (hw : w = finh m c 1)
    {α : Type} {kk : PUnit → Prog (TpuEff nD τ sig (Elt F) Λ₀ .tc) α} {Q : α → sProp 𝕄} :
    OP c (MID m c) ⊢ iprop((OP c (FIN m c) -∗ wpc c (kk ⟨⟩) Q) -∗ wpc c (.op (.store oM (ro256 ![256, 0] inb) w Finset.univ hx hm) kk) Q) := by
  refine o_store_half c 1 rfl (fun j => ?_) (fun i hi => ?_)
  · rw [hw]; exact FIN_half m c 1 j
  · have h' : (i 0).val < 512 := (i 0).isLt
    have hi' : ¬ (256 ≤ (i 0).val ∧ (i 0).val < 512) := hi
    unfold MID
    exact if_pos (by omega)

/-- The load of the upper half of the running sum. -/
theorem olh0 (c : Dev nD) {inb hl}
    {α : Type} {kk : (S256x2048.Idx → Elt F .f32) → Prog (TpuEff nD τ sig (Elt F) Λ₀ .tc) α} {Q : α → sProp 𝕄} :
    OP c (OUT m c 6) ⊢ iprop((OP c (OUT m c 6) -∗ wpc c (kk (outh m c 0)) Q) -∗ wpc c (.op (.load oM (ro256 ![0, 0] inb).toLoadRect hl) kk) Q) :=
  o_load_half c 0 rfl
/-- After the upper half's store the lower half is still the running sum's. -/
theorem MID_half (c : Dev nD) : (fun j : S256x2048.Idx => MID m c (ix2 ⟨256 * (1 : Fin 2).val + (j 0).val, by have h' : (j 0).val < 256 := (j 0).isLt; show 256 * 1 + (j 0).val < 512; omega⟩ (j 1))) = outh m c 1 := by
  funext j
  unfold MID outh
  exact if_neg (by show ¬ (256 * 1 + (j 0).val < 256); omega)
/-- The load of the lower half of the running sum. -/
theorem olh1 (c : Dev nD) {inb hl}
    {α : Type} {kk : (S256x2048.Idx → Elt F .f32) → Prog (TpuEff nD τ sig (Elt F) Λ₀ .tc) α} {Q : α → sProp 𝕄} :
    OP c (MID m c) ⊢ iprop((OP c (MID m c) -∗ wpc c (kk (outh m c 1)) Q) -∗ wpc c (.op (.load oM (ro256 ![256, 0] inb).toLoadRect hl) kk) Q) := by
  rw [← MID_half m c]
  exact o_load_half c 1 rfl
/-- A read of a half whose value is not used. -/
theorem olhx (c : Dev nD) {off : Fin 2 → ℕ} {inb : ∀ a, off a + S256x2048.size a ≤ S512x2048.size a} {hl} {f : S512x2048.Idx → Elt F .f32}
    {α : Type} {kk : (S256x2048.Idx → Elt F .f32) → Prog (TpuEff nD τ sig (Elt F) Λ₀ .tc) α} {Q : α → sProp 𝕄} :
    OP c f ⊢ iprop((∀ v, OP c f -∗ wpc c (kk v) Q) -∗ wpc c (.op (.load oM (ro256 off inb).toLoadRect hl) kk) Q) := by
  unfold OP
  iintro H Hk
  iapply (wp_load_rect 𝒱₀ (c : Thread nD τ) none Set.univ (m := oM) (r := ro256 off inb) (S := Finset.univ) (Finset.subset_univ _)) $$ H
  iintro H
  iapply Hk $$ H

/-! ## What the stores write -/

/-- A cast to the same shape changes nothing. -/
theorem cast_same {s : Shape} {α : Type} (v : s.Idx → α) (h : s.ShapeCasts s) : shapeCast s v h = v :=
  funext fun i => congrArg v (Shape.reshapeEquiv_self _ i)

/-- What is staged in this round is the block rounded to bf16. -/
theorem pay1_eq (v : S512x512.Idx → Elt F .f32) : k0_pay2 (k0_pay1 v) = truncf (s := S512x512) .bf16 v bitsLt_bf16_f32 := cast_same _ _
/-- What is staged in this round is the block rounded to bf16. -/
theorem pay3_eq (v : S512x512.Idx → Elt F .f32) : k0_pay3 v = truncf (s := S512x512) .bf16 v bitsLt_bf16_f32 := cast_same _ _
/-- What is staged in this round is the block rounded to bf16. -/
theorem pay4_eq (v : S512x512.Idx → Elt F .f32) : k0_pay4 v = truncf (s := S512x512) .bf16 v bitsLt_bf16_f32 := cast_same _ _
/-- What is staged in this round is the block rounded to bf16. -/
theorem pay5_eq (v : S512x512.Idx → Elt F .f32) : k0_pay5 v = truncf (s := S512x512) .bf16 v bitsLt_bf16_f32 := cast_same _ _
/-- What is staged in this round is the block rounded to bf16. -/
theorem pay7_eq (v : S512x512.Idx → Elt F .f32) : k0_pay7 v = truncf (s := S512x512) .bf16 v bitsLt_bf16_f32 := cast_same _ _
/-- What is staged in this round is the block rounded to bf16. -/
theorem pay9_eq (v : S512x512.Idx → Elt F .f32) : k0_pay9 v = truncf (s := S512x512) .bf16 v bitsLt_bf16_f32 := cast_same _ _
/-- What is staged in this round is the block rounded to bf16. -/
theorem pay11_eq (v : S512x512.Idx → Elt F .f32) : k0_pay11 v = truncf (s := S512x512) .bf16 v bitsLt_bf16_f32 := cast_same _ _
/-- Round 1 adds its product to the running sum. -/
theorem out_step1 (c : Dev nD) : k0_pay8 (OUT m c 0) (cmb m c ⟨(1 : Fin 9).val % 8, Nat.mod_lt _ (by decide)⟩) (wv m c (dn c 1)) = OUT m c 1 := rfl
/-- Round 2 adds its product to the running sum. -/
theorem out_step2 (c : Dev nD) : k0_pay10 (OUT m c 1) (cmb m c ⟨(2 : Fin 9).val % 8, Nat.mod_lt _ (by decide)⟩) (wv m c (dn c 2)) = OUT m c 2 := rfl
/-- Round 3 adds its product to the running sum. -/
theorem out_step3 (c : Dev nD) : k0_pay12 (OUT m c 2) (cmb m c ⟨(3 : Fin 9).val % 8, Nat.mod_lt _ (by decide)⟩) (wv m c (dn c 3)) = OUT m c 3 := rfl
/-- Round 4 adds its product to the running sum. -/
theorem out_step4 (c : Dev nD) : k0_pay13 (OUT m c 3) (cmb m c ⟨(4 : Fin 9).val % 8, Nat.mod_lt _ (by decide)⟩) (wv m c (dn c 4)) = OUT m c 4 := rfl
/-- Round 5 adds its product to the running sum. -/
theorem out_step5 (c : Dev nD) : k0_pay14 (OUT m c 4) (cmb m c ⟨(5 : Fin 9).val % 8, Nat.mod_lt _ (by decide)⟩) (wv m c (dn c 5)) = OUT m c 5 := rfl
/-- Round 6 adds its product to the running sum. -/
theorem out_step6 (c : Dev nD) : k0_pay17 (k0_pay15 (OUT m c 5)) (k0_pay16 (cmb m c ⟨(6 : Fin 9).val % 8, Nat.mod_lt _ (by decide)⟩)) (wv m c (dn c 6)) = OUT m c 6 := rfl

/-! ## Running one part after another -/

/-- A program that returns needs nothing. -/
theorem done (c : Dev nD) {α : Type} {v : α} {R : α → sProp 𝕄} : R v ⊢ wpc c (.ret v) R := by
  unfold wpc
  rw [wp_ret]
  exact fupd_intro

/-- A program followed by another: first the one, then the other. -/
theorem seq (c : Dev nD) {α β : Type} {p : Prog (TpuEff nD τ sig (Elt F) Λ₀ .tc) α} {k : α → Prog (TpuEff nD τ sig (Elt F) Λ₀ .tc) β} {P : sProp 𝕄} {R : α → sProp 𝕄} {Q : β → sProp 𝕄}
    (h : P ⊢ wpc c p R) : P ⊢ iprop((∀ r, R r -∗ wpc c (k r) Q) -∗ wpc c (p >>= k) Q) := by
  unfold wpc
  rw [wp_bind]
  iintro HP Hk
  iapply (wp_wand_r frame (wpE (defs₀ (F := F)) 𝒱₀ (c : Thread nD τ) none) Set.univ)
  isplitl [HP]
  · iapply h $$ HP
  iexact Hk

end Cert.KP
-- ==== Proof.Parts1.lean ====
/-
  The first seven parts of the body: the copies of `x` start, the barrier, the first four messages go.
-/
module

public import proofs.«01_k».proof.Proof.Moves

@[expose] public section

set_option maxRecDepth 16384

noncomputable section

namespace Cert.KP

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-- What the barrier wait takes. -/
def barIn (c : Dev nD) : sProp 𝕄 := iprop(cred (tallyAt (barCell c) () 7) ∗ atPos ER (barCell c) 0 ∅ 0)

/-- The slots the seven devices handed over are the landing slots of the eight messages. -/
theorem bar_slots (c : Dev nD) : iprop(barPay (F := F) c 1 ∗ barPay (F := F) c 2 ∗ barPay (F := F) c 3 ∗ barPay (F := F) c 4 ∗ barPay (F := F) c 5 ∗ barPay (F := F) c 6 ∗ barPay (F := F) c 7)
    ⊢ iprop(D0 (F := F) c 1 ∗ D0 (F := F) c 2 ∗ D0 (F := F) c 3 ∗ D0 (F := F) c 4 ∗ D0 (F := F) c 5 ∗ D0 (F := F) c 6 ∗ D0 (F := F) c 7 ∗ D0 (F := F) c 8) := by
  rw [show barPay (F := F) c 7 = iprop(∃ f, CP (F := F) (up c 7) 3584 512 f) from rfl, show D0 (F := F) c 7 = iprop(∃ f, CP (F := F) (up c 7) 3584 256 f) from rfl,
    show D0 (F := F) c 8 = iprop(∃ f, CP (F := F) (up c 7) 3840 256 f) from rfl, show barPay (F := F) c 1 = D0 (F := F) c 1 from rfl,
    show barPay (F := F) c 2 = D0 (F := F) c 2 from rfl, show barPay (F := F) c 3 = D0 (F := F) c 3 from rfl, show barPay (F := F) c 4 = D0 (F := F) c 4 from rfl,
    show barPay (F := F) c 5 = D0 (F := F) c 5 from rfl, show barPay (F := F) c 6 = D0 (F := F) c 6 from rfl]
  iintro ⟨H1, H2, H3, H4, H5, H6, ⟨%f, H7⟩⟩
  isplitl [H1]; · iexact H1
  isplitl [H2]; · iexact H2
  isplitl [H3]; · iexact H3
  isplitl [H4]; · iexact H4
  isplitl [H5]; · iexact H5
  isplitl [H6]; · iexact H6
  ihave H := (show CP (F := F) (up c 7) 3584 512 f ⊢ iprop(CP (F := F) (up c 7) 3584 256 f ∗ CP (F := F) (up c 7) 3840 256 f) from by
    unfold CP; rw [rows_halves]; exact (pointsTo_union (rows_halves_disjoint _)).1) $$ H7
  icases H with ⟨H7, H8⟩
  isplitl [H7]
  · iexists f; iexact H7
  · iexists f; iexact H8

/-- Part 1 starts the copies of blocks 1 to 3 of `x`, and reads the device's own number. -/
theorem part1 (c : Dev nD)  :
    iprop(X0 m c 1 ∗ X0 m c 2 ∗ X0 m c 3)
      ⊢ wpc c (k0_part1 (F := F) xA (Memref.isWhole_whole _) wA (Memref.isWhole_whole _) oM (Memref.isWhole_whole _) xM (Memref.isWhole_whole _) sM (Memref.isWhole_whole _) cM (Memref.isWhole_whole _) cc0_scratch3 cc0_scratch4 cc0_scratch5 wM (Memref.isWhole_whole _) cc0_scratch7 )
        (fun r => iprop(⌜r.1 = c⌝ ∗ X1 m c 1 ∗ X1 m c 2 ∗ X1 m c 3)) := by
  rw [k0_part1_eq_skeleton]; unfold k0_part1_skel
  simp only [semWaitWord, semSignalWord, Prog.lift, Prog.bind_op, Prog.bind_ret, Prog.pure_eq_ret, wp_deviceId]
  iintro ⟨HX1, HX2, HX3⟩
  iapply (xs m c 1 (off1_eq c 1) (off2_eq c 1)) $$ HX1
  iintro HX1
  iapply (xs m c 2 (off1_eq c 2) (off2_eq c 2)) $$ HX2
  iintro HX2
  iapply (xs m c 3 (off1_eq c 3) (off2_eq c 3)) $$ HX3
  iintro HX3
  iapply (done c)
  isplitr; · ipureintro; rfl
  isplitl [HX1]; · iexact HX1
  isplitl [HX2]; · iexact HX2
  iexact HX3

/-- Part 2 starts the copies of the device's own block and of blocks 4 to 6. -/
theorem part2 (c : Dev nD) (v2 : BitVec 32) :
    iprop(X0 m c 0 ∗ X0 m c 4 ∗ X0 m c 5 ∗ X0 m c 6)
      ⊢ wpc c (k0_part2 (F := F) xA (Memref.isWhole_whole _) wA (Memref.isWhole_whole _) oM (Memref.isWhole_whole _) xM (Memref.isWhole_whole _) sM (Memref.isWhole_whole _) cM (Memref.isWhole_whole _) cc0_scratch3 cc0_scratch4 cc0_scratch5 wM (Memref.isWhole_whole _) cc0_scratch7 c v2)
        (fun _ => iprop(X1 m c 0 ∗ X1 m c 4 ∗ X1 m c 5 ∗ X1 m c 6)) := by
  rw [k0_part2_eq_skeleton]; unfold k0_part2_skel
  simp only [semWaitWord, semSignalWord, Prog.lift, Prog.bind_op, Prog.bind_ret, Prog.pure_eq_ret]
  iintro ⟨HX0, HX4, HX5, HX6⟩
  iapply (xs m c 0 (off1_eq c 0) (off2_eq c 0)) $$ HX0
  iintro HX0
  iapply (xs m c 4 (off1_eq c 4) (off2_eq c 4)) $$ HX4
  iintro HX4
  iapply (xs m c 5 (off1_eq c 5) (off2_eq c 5)) $$ HX5
  iintro HX5
  iapply (xs m c 6 (off1_eq c 6) (off2_eq c 6)) $$ HX6
  iintro HX6
  iapply (done c)
  isplitl [HX0]; · iexact HX0
  isplitl [HX4]; · iexact HX4
  isplitl [HX5]; · iexact HX5
  iexact HX6

/-- Part 3 starts the copy of block 7, signals the other seven devices and waits for their signals: it owns every slot it will copy into. -/
theorem part3 (c : Dev nD) (v2 : BitVec 32) :
    iprop(INV m ∗ levAts L lv ∗ X0 m c 7 ∗ OW (F := F) c (sigOwes c 0) ∗ sigRes (F := F) c 0 ∗ sigRes (F := F) c 1 ∗ sigRes (F := F) c 2 ∗ sigRes (F := F) c 3 ∗ sigRes (F := F) c 4 ∗ sigRes (F := F) c 5 ∗ sigRes (F := F) c 6 ∗ sigRes (F := F) c 7 ∗ barIn (F := F) c)
      ⊢ wpc c (k0_part3 (F := F) xA (Memref.isWhole_whole _) wA (Memref.isWhole_whole _) oM (Memref.isWhole_whole _) xM (Memref.isWhole_whole _) sM (Memref.isWhole_whole _) cM (Memref.isWhole_whole _) cc0_scratch3 cc0_scratch4 cc0_scratch5 wM (Memref.isWhole_whole _) cc0_scratch7 c v2)
        (fun _ => iprop(X1 m c 7 ∗ OW (F := F) c (recvOwes c 1) ∗ semVal (barCell c) 0 ∗ D0 (F := F) c 1 ∗ D0 (F := F) c 2 ∗ D0 (F := F) c 3 ∗ D0 (F := F) c 4 ∗ D0 (F := F) c 5 ∗ D0 (F := F) c 6 ∗ D0 (F := F) c 7 ∗ D0 (F := F) c 8)) := by
  rw [k0_part3_eq_skeleton]; unfold k0_part3_skel
  simp only [semWaitWord, semSignalWord, Prog.lift, Prog.bind_op, Prog.bind_ret, Prog.pure_eq_ret]
  iintro ⟨#HI, #Hl, HX7, HO, HG0, HG1, HG2, HG3, HG4, HG5, HG6, HG7, HB⟩
  iapply (xs m c 7 (off1_eq c 7) (off2_eq c 7)) $$ HX7
  iintro HX7
  iapply (sig_step m c 0 0 1 rfl rfl (cond1_eq c) (dv := k0_dev1) rfl) $$ HI HG0 HO
  iintro HO
  iapply (sig_step m c 1 1 2 rfl rfl (cond2_eq c) (dv := k0_dev2) rfl) $$ HI HG1 HO
  iintro HO
  iapply (sig_step m c 2 2 3 rfl rfl (cond3_eq c) (dv := k0_dev3) rfl) $$ HI HG2 HO
  iintro HO
  iapply (sig_step m c 3 3 4 rfl rfl (cond4_eq c) (dv := k0_dev4) rfl) $$ HI HG3 HO
  iintro HO
  iapply (sig_step m c 4 4 5 rfl rfl (cond5_eq c) (dv := k0_dev5) rfl) $$ HI HG4 HO
  iintro HO
  iapply (sig_step m c 5 5 6 rfl rfl (cond6_eq c) (dv := k0_dev6) rfl) $$ HI HG5 HO
  iintro HO
  iapply (sig_step m c 6 6 7 rfl rfl (cond7_eq c) (dv := k0_dev7) rfl) $$ HI HG6 HO
  iintro HO
  iapply (sig_step m c 7 7 8 rfl rfl (cond8_eq c) (dv := k0_dev8) rfl) $$ HI HG7 HO
  iintro HO
  rw [sigOwes_eight]
  unfold barIn
  icases HB with ⟨HB, HBa⟩
  iapply (bar_wait m c) $$ HI Hl HB HBa HO
  iintro ⟨HB, HBz, HO⟩
  ihave HB := (bar_slots c) $$ HB
  icases HB with ⟨HD1, HD2, HD3, HD4, HD5, HD6, HD7, HD8⟩
  iapply (done c)
  isplitl [HX7]; · iexact HX7
  isplitl [HO]; · iexact HO
  isplitl [HBz]; · iexact HBz
  isplitl [HD1]; · iexact HD1
  isplitl [HD2]; · iexact HD2
  isplitl [HD3]; · iexact HD3
  isplitl [HD4]; · iexact HD4
  isplitl [HD5]; · iexact HD5
  isplitl [HD6]; · iexact HD6
  isplitl [HD7]; · iexact HD7
  iexact HD8

/-- Part 4 starts the copies of two blocks of `w` and reads block 1 of `x`. -/
theorem part4 (c : Dev nD) (v2 v92 : BitVec 32) :
    iprop(levAts L lv ∗ W0 (F := F) c 0 ∗ A m c 0 ∗ W0 (F := F) c 1 ∗ A m c 1 ∗ X1 m c 1 ∗ OW (F := F) c (recvOwes c 1))
      ⊢ wpc c (k0_part4 (F := F) xA (Memref.isWhole_whole _) wA (Memref.isWhole_whole _) oM (Memref.isWhole_whole _) xM (Memref.isWhole_whole _) sM (Memref.isWhole_whole _) cM (Memref.isWhole_whole _) cc0_scratch3 cc0_scratch4 cc0_scratch5 wM (Memref.isWhole_whole _) cc0_scratch7 c v2 v92)
        (fun r => iprop(⌜r = k0_pay1 (xblk m c (up c 1))⌝ ∗ W1 m c 0 0 ∗ W1 m c 1 1 ∗ X2 m c 1 ∗ OW (F := F) c (recvOwes c 1))) := by
  rw [k0_part4_eq_skeleton]; unfold k0_part4_skel
  simp only [semWaitWord, semSignalWord, Prog.lift, Prog.bind_op, Prog.bind_ret, Prog.pure_eq_ret]
  iintro ⟨#Hl, HW0, HA0, HW1, HA1, HX1, HO⟩
  iapply (ws m c 0 0 rfl rfl (off3_eq c 0)) $$ HW0 HA0
  iintro HW0
  iapply (ws m c 1 1 rfl rfl (off3_eq c 1)) $$ HW1 HA1
  iintro HW1
  iapply (xw m c 1 1 (off1_eq c 1)) $$ Hl HX1 HO
  iintro ⟨HX1, HO⟩
  iapply (xl m c 1 (off4_eq c 0)) $$ HX1
  iintro HX1
  iapply (done c)
  isplitr; · ipureintro; rfl
  isplitl [HW0]; · iexact HW0
  isplitl [HW1]; · iexact HW1
  isplitl [HX1]; · iexact HX1
  iexact HO

/-- Part 5 sends message 1 and stages message 2. -/
theorem part5 (c : Dev nD) (v2 : BitVec 32) :
    iprop(INV m ∗ levAts L lv ∗ S0 (F := F) c 1 ∗ D0 (F := F) c 1 ∗ sendTok c 1 ∗ OW (F := F) c (recvOwes c 1) ∗ X1 m c 2 ∗ S0 (F := F) c 2)
      ⊢ wpc c (k0_part5 (F := F) xA (Memref.isWhole_whole _) wA (Memref.isWhole_whole _) oM (Memref.isWhole_whole _) xM (Memref.isWhole_whole _) sM (Memref.isWhole_whole _) cM (Memref.isWhole_whole _) cc0_scratch3 cc0_scratch4 cc0_scratch5 wM (Memref.isWhole_whole _) cc0_scratch7 c v2 (k0_pay1 (xblk m c (up c 1))))
        (fun _ => iprop(OW (F := F) c (recvOwes c 2) ∗ Q1 c 1 ∗ X2 m c 2 ∗ T m c 2)) := by
  rw [k0_part5_eq_skeleton]; unfold k0_part5_skel
  simp only [semWaitWord, semSignalWord, Prog.lift, Prog.bind_op, Prog.bind_ret, Prog.pure_eq_ret]
  iintro ⟨#HI, #Hl, HS1, HD1, HK1, HO, HX2, HS2⟩
  iapply (sl c 1 (off4_eq c 0)) $$ HS1
  iintro %_ HS1
  iapply (ss m c 1 1 rfl (by decide) (off4_eq c 0) (pay1_eq _)) $$ HS1
  iintro HT1
  iapply (sd m c 1 (by decide) (by decide) 1 2 rfl rfl (dev9_eq c) rfl rfl (off2_eq c 1) rfl) $$ HI HT1 HD1 HK1 HO
  iintro ⟨HQ1, HO⟩
  iapply (xw m c 2 2 (off1_eq c 2)) $$ Hl HX2 HO
  iintro ⟨HX2, HO⟩
  iapply (xl m c 2 (off4_eq c 1)) $$ HX2
  iintro HX2
  iapply (sl c 2 (off4_eq c 1)) $$ HS2
  iintro %_ HS2
  iapply (ss m c 2 2 rfl (by decide) (off4_eq c 1) (pay3_eq _)) $$ HS2
  iintro HT2
  iapply (done c)
  isplitl [HO]; · iexact HO
  isplitl [HQ1]; · iexact HQ1
  isplitl [HX2]; · iexact HX2
  iexact HT2

/-- Part 6 sends message 2 and stages message 3. -/
theorem part6 (c : Dev nD) (v2 v156 : BitVec 32) :
    iprop(INV m ∗ levAts L lv ∗ T m c 2 ∗ D0 (F := F) c 2 ∗ sendTok c 2 ∗ OW (F := F) c (recvOwes c 2) ∗ X1 m c 3 ∗ S0 (F := F) c 3)
      ⊢ wpc c (k0_part6 (F := F) xA (Memref.isWhole_whole _) wA (Memref.isWhole_whole _) oM (Memref.isWhole_whole _) xM (Memref.isWhole_whole _) sM (Memref.isWhole_whole _) cM (Memref.isWhole_whole _) cc0_scratch3 cc0_scratch4 cc0_scratch5 wM (Memref.isWhole_whole _) cc0_scratch7 c v2 v156)
        (fun _ => iprop(OW (F := F) c (recvOwes c 3) ∗ Q1 c 2 ∗ X2 m c 3 ∗ T m c 3)) := by
  rw [k0_part6_eq_skeleton]; unfold k0_part6_skel
  simp only [semWaitWord, semSignalWord, Prog.lift, Prog.bind_op, Prog.bind_ret, Prog.pure_eq_ret]
  iintro ⟨#HI, #Hl, HT2, HD2, HK2, HO, HX3, HS3⟩
  iapply (sd m c 2 (by decide) (by decide) 2 3 rfl rfl (dev10_eq c) rfl rfl (off2_eq c 2) rfl) $$ HI HT2 HD2 HK2 HO
  iintro ⟨HQ2, HO⟩
  iapply (xw m c 3 3 (off1_eq c 3)) $$ Hl HX3 HO
  iintro ⟨HX3, HO⟩
  iapply (xl m c 3 (off4_eq c 2)) $$ HX3
  iintro HX3
  iapply (sl c 3 (off4_eq c 2)) $$ HS3
  iintro %_ HS3
  iapply (ss m c 3 3 rfl (by decide) (off4_eq c 2) (pay4_eq _)) $$ HS3
  iintro HT3
  iapply (done c)
  isplitl [HO]; · iexact HO
  isplitl [HQ2]; · iexact HQ2
  isplitl [HX3]; · iexact HX3
  iexact HT3

/-- Part 7 sends messages 3 and 4. -/
theorem part7 (c : Dev nD) (v2 : BitVec 32) :
    iprop(INV m ∗ levAts L lv ∗ T m c 3 ∗ D0 (F := F) c 3 ∗ sendTok c 3 ∗ OW (F := F) c (recvOwes c 3) ∗ X1 m c 4 ∗ S0 (F := F) c 4 ∗ D0 (F := F) c 4 ∗ sendTok c 4)
      ⊢ wpc c (k0_part7 (F := F) xA (Memref.isWhole_whole _) wA (Memref.isWhole_whole _) oM (Memref.isWhole_whole _) xM (Memref.isWhole_whole _) sM (Memref.isWhole_whole _) cM (Memref.isWhole_whole _) cc0_scratch3 cc0_scratch4 cc0_scratch5 wM (Memref.isWhole_whole _) cc0_scratch7 c v2)
        (fun _ => iprop(OW (F := F) c (recvOwes c 5) ∗ Q1 c 3 ∗ X2 m c 4 ∗ Q1 c 4)) := by
  rw [k0_part7_eq_skeleton]; unfold k0_part7_skel
  simp only [semWaitWord, semSignalWord, Prog.lift, Prog.bind_op, Prog.bind_ret, Prog.pure_eq_ret]
  iintro ⟨#HI, #Hl, HT3, HD3, HK3, HO, HX4, HS4, HD4, HK4⟩
  iapply (sd m c 3 (by decide) (by decide) 3 4 rfl rfl (dev11_eq c) rfl rfl (off2_eq c 3) rfl) $$ HI HT3 HD3 HK3 HO
  iintro ⟨HQ3, HO⟩
  iapply (xw m c 4 4 (off1_eq c 4)) $$ Hl HX4 HO
  iintro ⟨HX4, HO⟩
  iapply (xl m c 4 (off4_eq c 3)) $$ HX4
  iintro HX4
  iapply (sl c 4 (off4_eq c 3)) $$ HS4
  iintro %_ HS4
  iapply (ss m c 4 4 rfl (by decide) (off4_eq c 3) (pay5_eq _)) $$ HS4
  iintro HT4
  iapply (sd m c 4 (by decide) (by decide) 4 5 rfl rfl (dev12_eq c) rfl rfl (off2_eq c 4) rfl) $$ HI HT4 HD4 HK4 HO
  iintro ⟨HQ4, HO⟩
  iapply (done c)
  isplitl [HO]; · iexact HO
  isplitl [HQ3]; · iexact HQ3
  isplitl [HX4]; · iexact HX4
  iexact HQ4

end Cert.KP
-- ==== Proof.Parts2.lean ====
/-
  The parts of the body that stage and send the last messages while adding the products of the first.
-/
module

public import proofs.«01_k».proof.Proof.Moves

@[expose] public section

set_option maxRecDepth 16384

noncomputable section

namespace Cert.KP

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-- Part 8 stores the device's own product. -/
theorem part8 (c : Dev nD) (v2 : BitVec 32) :
    iprop(levAts L lv ∗ X1 m c 0 ∗ OW (F := F) c (recvOwes c 5) ∗ W1 m c 0 0 ∗ (∃ f, OP (F := F) c f) ∗ A m c 2)
      ⊢ wpc c (k0_part8 (F := F) xA (Memref.isWhole_whole _) wA (Memref.isWhole_whole _) oM (Memref.isWhole_whole _) xM (Memref.isWhole_whole _) sM (Memref.isWhole_whole _) cM (Memref.isWhole_whole _) cc0_scratch3 cc0_scratch4 cc0_scratch5 wM (Memref.isWhole_whole _) cc0_scratch7 c v2)
        (fun _ => iprop(X2 m c 0 ∗ OW (F := F) c (recvOwes c 5) ∗ W1 m c 0 2 ∗ A m c 0 ∗ OP c (OUT m c 0))) := by
  rw [k0_part8_eq_skeleton]; unfold k0_part8_skel
  simp only [semWaitWord, semSignalWord, Prog.lift, Prog.bind_op, Prog.bind_ret, Prog.pure_eq_ret]
  iintro ⟨#Hl, HX0, HO, HW0, HY, HA2⟩
  iapply (xw m c 0 5 (off5_eq c)) $$ Hl HX0 HO
  iintro ⟨HX0, HO⟩
  iapply (ww m c 0 0 5 rfl rfl) $$ Hl HW0 HO
  iintro ⟨HW0, HA0, HO⟩
  iapply (xl m c 0 (off7_eq c)) $$ HX0
  iintro HX0
  iapply (wl m c 0 0 rfl) $$ HW0
  iintro HW0
  icases HY with ⟨%fo, HY⟩
  iapply (o_load c) $$ HY
  iintro HY
  iapply (os c (OUT_own m c)) $$ HY
  iintro HY
  ihave HW0 := (W2_W0 m c 0 0) $$ HW0
  iapply (ws m c 0 2 rfl rfl (off3_eq c 2)) $$ HW0 HA2
  iintro HW0
  iapply (done c)
  isplitl [HX0]; · iexact HX0
  isplitl [HO]; · iexact HO
  isplitl [HW0]; · iexact HW0
  isplitl [HA0]; · iexact HA0
  iexact HY

/-- Part 9 receives message 1 and stages message 5. -/
theorem part9 (c : Dev nD) (v2 : BitVec 32) :
    iprop(INV m ∗ levAts L lv ∗ R0 (F := F) c 1 ∗ OW (F := F) c (recvOwes c 5) ∗ X1 m c 5 ∗ S0 (F := F) c 5)
      ⊢ wpc c (k0_part9 (F := F) xA (Memref.isWhole_whole _) wA (Memref.isWhole_whole _) oM (Memref.isWhole_whole _) xM (Memref.isWhole_whole _) sM (Memref.isWhole_whole _) cM (Memref.isWhole_whole _) cc0_scratch3 cc0_scratch4 cc0_scratch5 wM (Memref.isWhole_whole _) cc0_scratch7 c v2)
        (fun _ => iprop(R1 m c 1 ∗ OW (F := F) c (recvOwes c 5) ∗ RZ c 1 ∗ X2 m c 5 ∗ T m c 5)) := by
  rw [k0_part9_eq_skeleton]; unfold k0_part9_skel
  simp only [semWaitWord, semSignalWord, Prog.lift, Prog.bind_op, Prog.bind_ret, Prog.pure_eq_ret]
  iintro ⟨#HI, #Hl, HR1, HO, HX5, HS5⟩
  iapply (rw512_ m c 1 (by decide) (by decide) 5 (by decide) rfl) $$ HI Hl HR1 HO
  iintro ⟨HR1, HZ1, HO⟩
  iapply (xw m c 5 5 (off1_eq c 5)) $$ Hl HX5 HO
  iintro ⟨HX5, HO⟩
  iapply (xl m c 5 (off4_eq c 4)) $$ HX5
  iintro HX5
  iapply (sl c 5 (off4_eq c 4)) $$ HS5
  iintro %_ HS5
  iapply (ss m c 5 5 rfl (by decide) (off4_eq c 4) (pay7_eq _)) $$ HS5
  iintro HT5
  iapply (done c)
  isplitl [HR1]; · iexact HR1
  isplitl [HO]; · iexact HO
  isplitl [HZ1]; · iexact HZ1
  isplitl [HX5]; · iexact HX5
  iexact HT5

/-- Part 10 sends message 5 and adds the product of message 1. -/
theorem part10 (c : Dev nD) (v2 : BitVec 32) :
    iprop(INV m ∗ levAts L lv ∗ T m c 5 ∗ D0 (F := F) c 5 ∗ sendTok c 5 ∗ OW (F := F) c (recvOwes c 5) ∗ W1 m c 1 1 ∗ OP c (OUT m c 0) ∗ R1 m c 1 ∗ A m c 3)
      ⊢ wpc c (k0_part10 (F := F) xA (Memref.isWhole_whole _) wA (Memref.isWhole_whole _) oM (Memref.isWhole_whole _) xM (Memref.isWhole_whole _) sM (Memref.isWhole_whole _) cM (Memref.isWhole_whole _) cc0_scratch3 cc0_scratch4 cc0_scratch5 wM (Memref.isWhole_whole _) cc0_scratch7 c v2)
        (fun _ => iprop(OW (F := F) c (recvOwes c 6) ∗ Q1 c 5 ∗ W1 m c 1 3 ∗ A m c 1 ∗ OP c (OUT m c 1) ∗ R1 m c 1)) := by
  rw [k0_part10_eq_skeleton]; unfold k0_part10_skel
  simp only [semWaitWord, semSignalWord, Prog.lift, Prog.bind_op, Prog.bind_ret, Prog.pure_eq_ret]
  iintro ⟨#HI, #Hl, HT5, HD5, HK5, HO, HW1, HY, HR1, HA3⟩
  iapply (sd m c 5 (by decide) (by decide) 5 6 rfl rfl (dev13_eq c) rfl rfl (off2_eq c 5) rfl) $$ HI HT5 HD5 HK5 HO
  iintro ⟨HQ5, HO⟩
  iapply (ww m c 1 1 6 rfl rfl) $$ Hl HW1 HO
  iintro ⟨HW1, HA1, HO⟩
  iapply (o_load c) $$ HY
  iintro HY
  iapply (cl m c 1 (by decide) rfl) $$ HR1
  iintro HR1
  iapply (wl m c 1 1 rfl) $$ HW1
  iintro HW1
  iapply (o_load c) $$ HY
  iintro HY
  iapply (os c (out_step1 m c)) $$ HY
  iintro HY
  ihave HW1 := (W2_W0 m c 1 1) $$ HW1
  iapply (ws m c 1 3 rfl rfl (off3_eq c 3)) $$ HW1 HA3
  iintro HW1
  iapply (done c)
  isplitl [HO]; · iexact HO
  isplitl [HQ5]; · iexact HQ5
  isplitl [HW1]; · iexact HW1
  isplitl [HA1]; · iexact HA1
  isplitl [HY]; · iexact HY
  iexact HR1

/-- Part 11 receives message 2 and stages message 6. -/
theorem part11 (c : Dev nD) (v2 v306 v : BitVec 32) :
    iprop(INV m ∗ levAts L lv ∗ R0 (F := F) c 2 ∗ OW (F := F) c (recvOwes c 6) ∗ X1 m c 6 ∗ S0 (F := F) c 6)
      ⊢ wpc c (k0_part11 (F := F) xA (Memref.isWhole_whole _) wA (Memref.isWhole_whole _) oM (Memref.isWhole_whole _) xM (Memref.isWhole_whole _) sM (Memref.isWhole_whole _) cM (Memref.isWhole_whole _) cc0_scratch3 cc0_scratch4 cc0_scratch5 wM (Memref.isWhole_whole _) cc0_scratch7 c v2 v306 v)
        (fun _ => iprop(R1 m c 2 ∗ OW (F := F) c (recvOwes c 6) ∗ RZ c 2 ∗ X2 m c 6 ∗ T m c 6)) := by
  rw [k0_part11_eq_skeleton]; unfold k0_part11_skel
  simp only [semWaitWord, semSignalWord, Prog.lift, Prog.bind_op, Prog.bind_ret, Prog.pure_eq_ret]
  iintro ⟨#HI, #Hl, HR2, HO, HX6, HS6⟩
  iapply (rw512_ m c 2 (by decide) (by decide) 6 (by decide) rfl) $$ HI Hl HR2 HO
  iintro ⟨HR2, HZ2, HO⟩
  iapply (xw m c 6 6 (off1_eq c 6)) $$ Hl HX6 HO
  iintro ⟨HX6, HO⟩
  iapply (xl m c 6 (off4_eq c 5)) $$ HX6
  iintro HX6
  iapply (sl c 6 (off4_eq c 5)) $$ HS6
  iintro %_ HS6
  iapply (ss m c 6 6 rfl (by decide) (off4_eq c 5) (pay9_eq _)) $$ HS6
  iintro HT6
  iapply (done c)
  isplitl [HR2]; · iexact HR2
  isplitl [HO]; · iexact HO
  isplitl [HZ2]; · iexact HZ2
  isplitl [HX6]; · iexact HX6
  iexact HT6

/-- Part 12 sends message 6 and adds the product of message 2. -/
theorem part12 (c : Dev nD) (v2 : BitVec 32) :
    iprop(INV m ∗ levAts L lv ∗ T m c 6 ∗ D0 (F := F) c 6 ∗ sendTok c 6 ∗ OW (F := F) c (recvOwes c 6) ∗ W1 m c 0 2 ∗ OP c (OUT m c 1) ∗ R1 m c 2 ∗ A m c 4)
      ⊢ wpc c (k0_part12 (F := F) xA (Memref.isWhole_whole _) wA (Memref.isWhole_whole _) oM (Memref.isWhole_whole _) xM (Memref.isWhole_whole _) sM (Memref.isWhole_whole _) cM (Memref.isWhole_whole _) cc0_scratch3 cc0_scratch4 cc0_scratch5 wM (Memref.isWhole_whole _) cc0_scratch7 c v2)
        (fun _ => iprop(OW (F := F) c (recvOwes c 7) ∗ Q1 c 6 ∗ W1 m c 0 4 ∗ A m c 2 ∗ OP c (OUT m c 2) ∗ R1 m c 2)) := by
  rw [k0_part12_eq_skeleton]; unfold k0_part12_skel
  simp only [semWaitWord, semSignalWord, Prog.lift, Prog.bind_op, Prog.bind_ret, Prog.pure_eq_ret]
  iintro ⟨#HI, #Hl, HT6, HD6, HK6, HO, HW0, HY, HR2, HA4⟩
  iapply (sd m c 6 (by decide) (by decide) 6 7 rfl rfl (dev14_eq c) rfl rfl (off2_eq c 6) rfl) $$ HI HT6 HD6 HK6 HO
  iintro ⟨HQ6, HO⟩
  iapply (ww m c 0 2 7 rfl rfl) $$ Hl HW0 HO
  iintro ⟨HW0, HA2, HO⟩
  iapply (o_load c) $$ HY
  iintro HY
  iapply (cl m c 2 (by decide) rfl) $$ HR2
  iintro HR2
  iapply (wl m c 0 2 rfl) $$ HW0
  iintro HW0
  iapply (o_load c) $$ HY
  iintro HY
  iapply (os c (out_step2 m c)) $$ HY
  iintro HY
  ihave HW0 := (W2_W0 m c 0 2) $$ HW0
  iapply (ws m c 0 4 rfl rfl (off3_eq c 4)) $$ HW0 HA4
  iintro HW0
  iapply (done c)
  isplitl [HO]; · iexact HO
  isplitl [HQ6]; · iexact HQ6
  isplitl [HW0]; · iexact HW0
  isplitl [HA2]; · iexact HA2
  isplitl [HY]; · iexact HY
  iexact HR2

/-- Part 13 receives message 3, stages block 7 and sends its first half. -/
theorem part13 (c : Dev nD) (v2 : BitVec 32) :
    iprop(INV m ∗ levAts L lv ∗ R0 (F := F) c 3 ∗ OW (F := F) c (recvOwes c 7) ∗ X1 m c 7 ∗ S0 (F := F) c 7 ∗ D0 (F := F) c 7 ∗ sendTok c 7)
      ⊢ wpc c (k0_part13 (F := F) xA (Memref.isWhole_whole _) wA (Memref.isWhole_whole _) oM (Memref.isWhole_whole _) xM (Memref.isWhole_whole _) sM (Memref.isWhole_whole _) cM (Memref.isWhole_whole _) cc0_scratch3 cc0_scratch4 cc0_scratch5 wM (Memref.isWhole_whole _) cc0_scratch7 c v2)
        (fun _ => iprop(R1 m c 3 ∗ OW (F := F) c (recvOwes c 8) ∗ RZ c 3 ∗ X2 m c 7 ∗ T m c 8 ∗ Q1 c 7)) := by
  rw [k0_part13_eq_skeleton]; unfold k0_part13_skel
  simp only [semWaitWord, semSignalWord, Prog.lift, Prog.bind_op, Prog.bind_ret, Prog.pure_eq_ret]
  iintro ⟨#HI, #Hl, HR3, HO, HX7, HS7, HD7, HK7⟩
  iapply (rw512_ m c 3 (by decide) (by decide) 7 (by decide) rfl) $$ HI Hl HR3 HO
  iintro ⟨HR3, HZ3, HO⟩
  iapply (xw m c 7 7 (off1_eq c 7)) $$ Hl HX7 HO
  iintro ⟨HX7, HO⟩
  iapply (xl m c 7 (off4_eq c 6)) $$ HX7
  iintro HX7
  iapply (sl c 7 (off4_eq c 6)) $$ HS7
  iintro %_ HS7
  iapply (ss7 m c (off4_eq c 6) (pay11_eq _)) $$ HS7
  iintro ⟨HT7, HT8⟩
  iapply (sdh m c 7 (by decide) 7 8 rfl rfl (dev15_eq c) rfl rfl (off8_eq7 c) rfl) $$ HI HT7 HD7 HK7 HO
  iintro ⟨HQ7, HO⟩
  iapply (done c)
  isplitl [HR3]; · iexact HR3
  isplitl [HO]; · iexact HO
  isplitl [HZ3]; · iexact HZ3
  isplitl [HX7]; · iexact HX7
  isplitl [HT8]; · iexact HT8
  iexact HQ7

/-- Part 14 sends the second half of block 7 and adds the product of message 3. -/
theorem part14 (c : Dev nD) (v2 v387 : BitVec 32) :
    iprop(INV m ∗ levAts L lv ∗ T m c 8 ∗ D0 (F := F) c 8 ∗ sendTok c 8 ∗ OW (F := F) c (recvOwes c 8) ∗ W1 m c 1 3 ∗ OP c (OUT m c 2) ∗ R1 m c 3)
      ⊢ wpc c (k0_part14 (F := F) xA (Memref.isWhole_whole _) wA (Memref.isWhole_whole _) oM (Memref.isWhole_whole _) xM (Memref.isWhole_whole _) sM (Memref.isWhole_whole _) cM (Memref.isWhole_whole _) cc0_scratch3 cc0_scratch4 cc0_scratch5 wM (Memref.isWhole_whole _) cc0_scratch7 c v2 v387)
        (fun _ => iprop(OW (F := F) c (recvOwes c 9) ∗ Q1 c 8 ∗ W2 m c 1 3 ∗ A m c 3 ∗ OP c (OUT m c 3) ∗ R1 m c 3)) := by
  rw [k0_part14_eq_skeleton]; unfold k0_part14_skel
  simp only [semWaitWord, semSignalWord, Prog.lift, Prog.bind_op, Prog.bind_ret, Prog.pure_eq_ret]
  iintro ⟨#HI, #Hl, HT8, HD8, HK8, HO, HW1, HY, HR3⟩
  iapply (sdh m c 8 (by decide) 8 9 rfl rfl (dev16_eq c) rfl rfl (off8_eq8 c) rfl) $$ HI HT8 HD8 HK8 HO
  iintro ⟨HQ8, HO⟩
  iapply (ww m c 1 3 9 rfl rfl) $$ Hl HW1 HO
  iintro ⟨HW1, HA3, HO⟩
  iapply (o_load c) $$ HY
  iintro HY
  iapply (cl m c 3 (by decide) rfl) $$ HR3
  iintro HR3
  iapply (wl m c 1 3 rfl) $$ HW1
  iintro HW1
  iapply (o_load c) $$ HY
  iintro HY
  iapply (os c (out_step3 m c)) $$ HY
  iintro HY
  iapply (done c)
  isplitl [HO]; · iexact HO
  isplitl [HQ8]; · iexact HQ8
  isplitl [HW1]; · iexact HW1
  isplitl [HA3]; · iexact HA3
  isplitl [HY]; · iexact HY
  iexact HR3

end Cert.KP
-- ==== Proof.Parts3.lean ====
/-
  The last parts of the body: the remaining products, the two finished halves, the end of the sends.
-/
module

public import proofs.«01_k».proof.Proof.Moves

@[expose] public section

set_option maxRecDepth 16384

noncomputable section

namespace Cert.KP

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-- Part 15 receives message 4 and adds its product. -/
theorem part15 (c : Dev nD) (v2 : BitVec 32) :
    iprop(INV m ∗ levAts L lv ∗ W2 m c 1 3 ∗ A m c 5 ∗ R0 (F := F) c 4 ∗ OW (F := F) c (recvOwes c 9) ∗ W1 m c 0 4 ∗ OP c (OUT m c 3))
      ⊢ wpc c (k0_part15 (F := F) xA (Memref.isWhole_whole _) wA (Memref.isWhole_whole _) oM (Memref.isWhole_whole _) xM (Memref.isWhole_whole _) sM (Memref.isWhole_whole _) cM (Memref.isWhole_whole _) cc0_scratch3 cc0_scratch4 cc0_scratch5 wM (Memref.isWhole_whole _) cc0_scratch7 c v2)
        (fun _ => iprop(W1 m c 1 5 ∗ R1 m c 4 ∗ OW (F := F) c (recvOwes c 9) ∗ RZ c 4 ∗ W2 m c 0 4 ∗ A m c 4 ∗ OP c (OUT m c 4))) := by
  rw [k0_part15_eq_skeleton]; unfold k0_part15_skel
  simp only [semWaitWord, semSignalWord, Prog.lift, Prog.bind_op, Prog.bind_ret, Prog.pure_eq_ret]
  iintro ⟨#HI, #Hl, HW1, HA5, HR4, HO, HW0, HY⟩
  ihave HW1 := (W2_W0 m c 1 3) $$ HW1
  iapply (ws m c 1 5 rfl rfl (off3_eq c 5)) $$ HW1 HA5
  iintro HW1
  iapply (rw512_ m c 4 (by decide) (by decide) 9 (by decide) rfl) $$ HI Hl HR4 HO
  iintro ⟨HR4, HZ4, HO⟩
  iapply (ww m c 0 4 9 rfl rfl) $$ Hl HW0 HO
  iintro ⟨HW0, HA4, HO⟩
  iapply (o_load c) $$ HY
  iintro HY
  iapply (cl m c 4 (by decide) rfl) $$ HR4
  iintro HR4
  iapply (wl m c 0 4 rfl) $$ HW0
  iintro HW0
  iapply (o_load c) $$ HY
  iintro HY
  iapply (os c (out_step4 m c)) $$ HY
  iintro HY
  iapply (done c)
  isplitl [HW1]; · iexact HW1
  isplitl [HR4]; · iexact HR4
  isplitl [HO]; · iexact HO
  isplitl [HZ4]; · iexact HZ4
  isplitl [HW0]; · iexact HW0
  isplitl [HA4]; · iexact HA4
  iexact HY

/-- Part 16 receives message 5 and computes the sum with its product. -/
theorem part16 (c : Dev nD) (v2 v451 : BitVec 32) :
    iprop(INV m ∗ levAts L lv ∗ W2 m c 0 4 ∗ A m c 6 ∗ R0 (F := F) c 5 ∗ OW (F := F) c (recvOwes c 9) ∗ W1 m c 1 5 ∗ OP c (OUT m c 4))
      ⊢ wpc c (k0_part16 (F := F) xA (Memref.isWhole_whole _) wA (Memref.isWhole_whole _) oM (Memref.isWhole_whole _) xM (Memref.isWhole_whole _) sM (Memref.isWhole_whole _) cM (Memref.isWhole_whole _) cc0_scratch3 cc0_scratch4 cc0_scratch5 wM (Memref.isWhole_whole _) cc0_scratch7 c v2 v451)
        (fun r => iprop(⌜r = OUT m c 5⌝ ∗ W1 m c 0 6 ∗ R1 m c 5 ∗ OW (F := F) c (recvOwes c 9) ∗ RZ c 5 ∗ W2 m c 1 5 ∗ A m c 5 ∗ OP c (OUT m c 4))) := by
  rw [k0_part16_eq_skeleton]; unfold k0_part16_skel
  simp only [semWaitWord, semSignalWord, Prog.lift, Prog.bind_op, Prog.bind_ret, Prog.pure_eq_ret]
  iintro ⟨#HI, #Hl, HW0, HA6, HR5, HO, HW1, HY⟩
  ihave HW0 := (W2_W0 m c 0 4) $$ HW0
  iapply (ws m c 0 6 rfl rfl (off3_eq c 6)) $$ HW0 HA6
  iintro HW0
  iapply (rw512_ m c 5 (by decide) (by decide) 9 (by decide) rfl) $$ HI Hl HR5 HO
  iintro ⟨HR5, HZ5, HO⟩
  iapply (ww m c 1 5 9 rfl rfl) $$ Hl HW1 HO
  iintro ⟨HW1, HA5, HO⟩
  iapply (o_load c) $$ HY
  iintro HY
  iapply (cl m c 5 (by decide) rfl) $$ HR5
  iintro HR5
  iapply (wl m c 1 5 rfl) $$ HW1
  iintro HW1
  iapply (done c)
  isplitr; · ipureintro; rfl
  isplitl [HW0]; · iexact HW0
  isplitl [HR5]; · iexact HR5
  isplitl [HO]; · iexact HO
  isplitl [HZ5]; · iexact HZ5
  isplitl [HW1]; · iexact HW1
  isplitl [HA5]; · iexact HA5
  iexact HY

/-- Part 17 stores that sum, receives message 6 and reads it. -/
theorem part17 (c : Dev nD) (v2 : BitVec 32) :
    iprop(INV m ∗ levAts L lv ∗ OP c (OUT m c 4) ∗ W2 m c 1 5 ∗ A m c 7 ∗ R0 (F := F) c 6 ∗ OW (F := F) c (recvOwes c 9) ∗ W1 m c 0 6)
      ⊢ wpc c (k0_part17 (F := F) xA (Memref.isWhole_whole _) wA (Memref.isWhole_whole _) oM (Memref.isWhole_whole _) xM (Memref.isWhole_whole _) sM (Memref.isWhole_whole _) cM (Memref.isWhole_whole _) cc0_scratch3 cc0_scratch4 cc0_scratch5 wM (Memref.isWhole_whole _) cc0_scratch7 c v2 (OUT m c 5))
        (fun r => iprop(⌜r = ⟨k0_pay15 (OUT m c 5), k0_pay16 (cmb m c ⟨(6 : Fin 9).val % 8, Nat.mod_lt _ (by decide)⟩)⟩⌝ ∗ OP c (OUT m c 5) ∗ W1 m c 1 7 ∗ R1 m c 6 ∗ OW (F := F) c (recvOwes c 9) ∗ RZ c 6 ∗ W2 m c 0 6 ∗ A m c 6)) := by
  rw [k0_part17_eq_skeleton]; unfold k0_part17_skel
  simp only [semWaitWord, semSignalWord, Prog.lift, Prog.bind_op, Prog.bind_ret, Prog.pure_eq_ret]
  iintro ⟨#HI, #Hl, HY, HW1, HA7, HR6, HO, HW0⟩
  iapply (o_load c) $$ HY
  iintro HY
  iapply (os c (rfl)) $$ HY
  iintro HY
  ihave HW1 := (W2_W0 m c 1 5) $$ HW1
  iapply (ws m c 1 7 rfl rfl (off3_eq c 7)) $$ HW1 HA7
  iintro HW1
  iapply (rw512_ m c 6 (by decide) (by decide) 9 (by decide) rfl) $$ HI Hl HR6 HO
  iintro ⟨HR6, HZ6, HO⟩
  iapply (ww m c 0 6 9 rfl rfl) $$ Hl HW0 HO
  iintro ⟨HW0, HA6, HO⟩
  iapply (o_load c) $$ HY
  iintro HY
  iapply (cl m c 6 (by decide) rfl) $$ HR6
  iintro HR6
  iapply (done c)
  isplitr; · ipureintro; rfl
  isplitl [HY]; · iexact HY
  isplitl [HW1]; · iexact HW1
  isplitl [HR6]; · iexact HR6
  isplitl [HO]; · iexact HO
  isplitl [HZ6]; · iexact HZ6
  isplitl [HW0]; · iexact HW0
  iexact HA6

/-- Part 18 stores the sum with message 6, receives the first half of block 7 and finishes the upper half of the result. -/
theorem part18 (c : Dev nD) (v2 : BitVec 32) :
    iprop(INV m ∗ levAts L lv ∗ W2 m c 0 6 ∗ OP c (OUT m c 5) ∗ W1 m c 1 7 ∗ OW (F := F) c (recvOwes c 9) ∗ R0 (F := F) c 7)
      ⊢ wpc c (k0_part18 (F := F) xA (Memref.isWhole_whole _) wA (Memref.isWhole_whole _) oM (Memref.isWhole_whole _) xM (Memref.isWhole_whole _) sM (Memref.isWhole_whole _) cM (Memref.isWhole_whole _) cc0_scratch3 cc0_scratch4 cc0_scratch5 wM (Memref.isWhole_whole _) cc0_scratch7 v2 (k0_pay15 (OUT m c 5)) (k0_pay16 (cmb m c ⟨(6 : Fin 9).val % 8, Nat.mod_lt _ (by decide)⟩)))
        (fun _ => iprop(W2 m c 0 6 ∗ OP c (MID m c) ∗ W2 m c 1 7 ∗ OW (F := F) c (recvOwes c 9) ∗ A m c 7 ∗ R1 m c 7 ∗ RZ c 7)) := by
  rw [k0_part18_eq_skeleton]; unfold k0_part18_skel
  simp only [semWaitWord, semSignalWord, Prog.lift, Prog.bind_op, Prog.bind_ret, Prog.pure_eq_ret]
  iintro ⟨#HI, #Hl, HW0, HY, HW1, HO, HR7⟩
  iapply (wl m c 0 6 rfl) $$ HW0
  iintro HW0
  iapply (o_load c) $$ HY
  iintro HY
  iapply (os c (out_step6 m c)) $$ HY
  iintro HY
  iapply (ww m c 1 7 9 rfl rfl) $$ Hl HW1 HO
  iintro ⟨HW1, HA7, HO⟩
  iapply (rw256_ m c 7 (by decide) (by decide) 9 (by decide) rfl) $$ HI Hl HR7 HO
  iintro ⟨HR7, HZ7, HO⟩
  iapply (olh0 m c) $$ HY
  iintro HY
  iapply (cl7 m c) $$ HR7
  iintro HR7
  iapply (wl m c 1 7 rfl) $$ HW1
  iintro HW1
  iapply (olhx c) $$ HY
  iintro %_ HY
  iapply (osh0 m c rfl) $$ HY
  iintro HY
  iapply (done c)
  isplitl [HW0]; · iexact HW0
  isplitl [HY]; · iexact HY
  isplitl [HW1]; · iexact HW1
  isplitl [HO]; · iexact HO
  isplitl [HA7]; · iexact HA7
  isplitl [HR7]; · iexact HR7
  iexact HZ7

/-- Part 19 receives the second half, finishes the lower half of the result, and sees messages 1 and 2 gone. -/
theorem part19 (c : Dev nD) (v2 : BitVec 32) :
    iprop(INV m ∗ levAts L lv ∗ R0 (F := F) c 8 ∗ OW (F := F) c (recvOwes c 9) ∗ OP c (MID m c) ∗ W2 m c 1 7 ∗ Q1 c 1 ∗ P0 c 1 ∗ Q1 c 2 ∗ P0 c 2)
      ⊢ wpc c (k0_part19 (F := F) xA (Memref.isWhole_whole _) wA (Memref.isWhole_whole _) oM (Memref.isWhole_whole _) xM (Memref.isWhole_whole _) sM (Memref.isWhole_whole _) cM (Memref.isWhole_whole _) cc0_scratch3 cc0_scratch4 cc0_scratch5 wM (Memref.isWhole_whole _) cc0_scratch7 v2)
        (fun _ => iprop(R1 m c 8 ∗ OW (F := F) c (recvOwes c 9) ∗ RZ c 8 ∗ OP c (FIN m c) ∗ W2 m c 1 7 ∗ Z m c 1 ∗ Z m c 2)) := by
  rw [k0_part19_eq_skeleton]; unfold k0_part19_skel
  simp only [semWaitWord, semSignalWord, Prog.lift, Prog.bind_op, Prog.bind_ret, Prog.pure_eq_ret]
  iintro ⟨#HI, #Hl, HR8, HO, HY, HW1, HQ1, HP1, HQ2, HP2⟩
  iapply (rw256_ m c 8 (by decide) (by decide) 9 (by decide) rfl) $$ HI Hl HR8 HO
  iintro ⟨HR8, HZ8, HO⟩
  iapply (olh1 m c) $$ HY
  iintro HY
  iapply (cl8 m c) $$ HR8
  iintro HR8
  iapply (wl m c 1 7 rfl) $$ HW1
  iintro HW1
  iapply (olhx c) $$ HY
  iintro %_ HY
  iapply (osh1 m c rfl) $$ HY
  iintro HY
  iapply (sw512 m c 1 (by decide) (by decide) rfl) $$ HI HQ1 HP1 HO
  iintro ⟨HQ1, HO⟩
  iapply (sw512 m c 2 (by decide) (by decide) rfl) $$ HI HQ2 HP2 HO
  iintro ⟨HQ2, HO⟩
  iapply (done c)
  isplitl [HR8]; · iexact HR8
  isplitl [HO]; · iexact HO
  isplitl [HZ8]; · iexact HZ8
  isplitl [HY]; · iexact HY
  isplitl [HW1]; · iexact HW1
  isplitl [HQ1]; · iexact HQ1
  iexact HQ2

/-- Part 20 sees messages 3 to 7 gone. -/
theorem part20 (c : Dev nD)  :
    iprop(INV m ∗ Q1 c 3 ∗ P0 c 3 ∗ OW (F := F) c (recvOwes c 9) ∗ Q1 c 4 ∗ P0 c 4 ∗ Q1 c 5 ∗ P0 c 5 ∗ Q1 c 6 ∗ P0 c 6 ∗ Q1 c 7 ∗ P0 c 7)
      ⊢ wpc c (k0_part20 (F := F) xA (Memref.isWhole_whole _) wA (Memref.isWhole_whole _) oM (Memref.isWhole_whole _) xM (Memref.isWhole_whole _) sM (Memref.isWhole_whole _) cM (Memref.isWhole_whole _) cc0_scratch3 cc0_scratch4 cc0_scratch5 wM (Memref.isWhole_whole _) cc0_scratch7 )
        (fun _ => iprop(Z m c 3 ∗ OW (F := F) c (recvOwes c 9) ∗ Z m c 4 ∗ Z m c 5 ∗ Z m c 6 ∗ Z m c 7)) := by
  rw [k0_part20_eq_skeleton]; unfold k0_part20_skel
  simp only [semWaitWord, semSignalWord, Prog.lift, Prog.bind_op, Prog.bind_ret, Prog.pure_eq_ret]
  iintro ⟨#HI, HQ3, HP3, HO, HQ4, HP4, HQ5, HP5, HQ6, HP6, HQ7, HP7⟩
  iapply (sw512 m c 3 (by decide) (by decide) rfl) $$ HI HQ3 HP3 HO
  iintro ⟨HQ3, HO⟩
  iapply (sw512 m c 4 (by decide) (by decide) rfl) $$ HI HQ4 HP4 HO
  iintro ⟨HQ4, HO⟩
  iapply (sw512 m c 5 (by decide) (by decide) rfl) $$ HI HQ5 HP5 HO
  iintro ⟨HQ5, HO⟩
  iapply (sw512 m c 6 (by decide) (by decide) rfl) $$ HI HQ6 HP6 HO
  iintro ⟨HQ6, HO⟩
  iapply (sw256 m c 7 (by decide) (by decide) rfl) $$ HI HQ7 HP7 HO
  iintro ⟨HQ7, HO⟩
  iapply (done c)
  isplitl [HQ3]; · iexact HQ3
  isplitl [HO]; · iexact HO
  isplitl [HQ4]; · iexact HQ4
  isplitl [HQ5]; · iexact HQ5
  isplitl [HQ6]; · iexact HQ6
  iexact HQ7

end Cert.KP
-- ==== Proof.Body.lean ====
/-
  The body as one run: the twenty parts after one another, and the wait for the last message.
-/
module

public import proofs.«01_k».proof.Proof.Parts1
public import proofs.«01_k».proof.Proof.Parts2
public import proofs.«01_k».proof.Proof.Parts3

@[expose] public section

set_option maxRecDepth 16384

noncomputable section

namespace Cert.KP

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-- What device `c` brings to its body. -/
def bodyIn (c : Dev nD) : sProp 𝕄 :=
  iprop((X0 m c 0 ∗ X0 m c 1 ∗ X0 m c 2 ∗ X0 m c 3 ∗ X0 m c 4 ∗ X0 m c 5 ∗ X0 m c 6 ∗ X0 m c 7) ∗ (A m c 0 ∗ A m c 1 ∗ A m c 2 ∗ A m c 3 ∗ A m c 4 ∗ A m c 5 ∗ A m c 6 ∗ A m c 7) ∗ (W0 (F := F) c 0 ∗ W0 (F := F) c 1) ∗ (S0 (F := F) c 1 ∗ S0 (F := F) c 2 ∗ S0 (F := F) c 3 ∗ S0 (F := F) c 4 ∗ S0 (F := F) c 5 ∗ S0 (F := F) c 6 ∗ S0 (F := F) c 7) ∗ (sigRes (F := F) c 0 ∗ sigRes (F := F) c 1 ∗ sigRes (F := F) c 2 ∗ sigRes (F := F) c 3 ∗ sigRes (F := F) c 4 ∗ sigRes (F := F) c 5 ∗ sigRes (F := F) c 6 ∗ sigRes (F := F) c 7) ∗ (barIn (F := F) c) ∗ (sendTok (F := F) c 1 ∗ sendTok (F := F) c 2 ∗ sendTok (F := F) c 3 ∗ sendTok (F := F) c 4 ∗ sendTok (F := F) c 5 ∗ sendTok (F := F) c 6 ∗ sendTok (F := F) c 7 ∗ sendTok (F := F) c 8) ∗ (R0 (F := F) c 1 ∗ R0 (F := F) c 2 ∗ R0 (F := F) c 3 ∗ R0 (F := F) c 4 ∗ R0 (F := F) c 5 ∗ R0 (F := F) c 6 ∗ R0 (F := F) c 7 ∗ R0 (F := F) c 8) ∗ (P0 (F := F) c 1 ∗ P0 (F := F) c 2 ∗ P0 (F := F) c 3 ∗ P0 (F := F) c 4 ∗ P0 (F := F) c 5 ∗ P0 (F := F) c 6 ∗ P0 (F := F) c 7 ∗ P0 (F := F) c 8) ∗ (∃ f, OP (F := F) c f))

/-- What it holds afterwards: the blocks of `x` and `w` as they were, every landed and every sent message, every semaphore
    at zero and the finished rows of the result. -/
def bodyOut (c : Dev nD) : sProp 𝕄 :=
  iprop((X2 m c 0 ∗ X2 m c 1 ∗ X2 m c 2 ∗ X2 m c 3 ∗ X2 m c 4 ∗ X2 m c 5 ∗ X2 m c 6 ∗ X2 m c 7) ∗ (A m c 0 ∗ A m c 1 ∗ A m c 2 ∗ A m c 3 ∗ A m c 4 ∗ A m c 5 ∗ A m c 6 ∗ A m c 7) ∗ (W2 m c 0 6 ∗ W2 m c 1 7) ∗ (R1 m c 1 ∗ R1 m c 2 ∗ R1 m c 3 ∗ R1 m c 4 ∗ R1 m c 5 ∗ R1 m c 6 ∗ R1 m c 7 ∗ R1 m c 8) ∗ (RZ (F := F) c 1 ∗ RZ (F := F) c 2 ∗ RZ (F := F) c 3 ∗ RZ (F := F) c 4 ∗ RZ (F := F) c 5 ∗ RZ (F := F) c 6 ∗ RZ (F := F) c 7 ∗ RZ (F := F) c 8) ∗ (semVal (barCell c) 0) ∗ (Z m c 1 ∗ Z m c 2 ∗ Z m c 3 ∗ Z m c 4 ∗ Z m c 5 ∗ Z m c 6 ∗ Z m c 7 ∗ Z m c 8) ∗ (OP c (FIN m c)))

set_option maxHeartbeats 1600000 in
/-- The whole body runs from the one to the other. -/
theorem body_run (c : Dev nD) :
    iprop(INV m ∗ levAts L lv ∗ OW (F := F) c (sigOwes c 0) ∗ bodyIn m c)
      ⊢ wpc c (cc0_body (F := F) xA (Memref.isWhole_whole _) wA (Memref.isWhole_whole _) oM (Memref.isWhole_whole _) xM (Memref.isWhole_whole _) sM (Memref.isWhole_whole _) cM (Memref.isWhole_whole _) cc0_scratch3 cc0_scratch4 cc0_scratch5 wM (Memref.isWhole_whole _) cc0_scratch7) (fun _ => iprop(bodyOut m c ∗ OW (F := F) c (recvOwes c 9))) := by
  rw [cc0_body_eq_skeleton]; unfold cc0_body_skel
  simp only [Prog.lift, Prog.bind_op, Prog.bind_ret, Prog.pure_eq_ret]
  unfold bodyIn
  iintro ⟨#HI, #Hl, HO, ⟨HX0, HX1, HX2, HX3, HX4, HX5, HX6, HX7⟩, ⟨HA0, HA1, HA2, HA3, HA4, HA5, HA6, HA7⟩, ⟨HW0, HW1⟩, ⟨HS1, HS2, HS3, HS4, HS5, HS6, HS7⟩, ⟨HG0, HG1, HG2, HG3, HG4, HG5, HG6, HG7⟩, HB, ⟨HK1, HK2, HK3, HK4, HK5, HK6, HK7, HK8⟩, ⟨HR1, HR2, HR3, HR4, HR5, HR6, HR7, HR8⟩, ⟨HP1, HP2, HP3, HP4, HP5, HP6, HP7, HP8⟩, HY⟩
  iapply (seq c (part1 m c)) $$ [HX1 HX2 HX3]
  · isplitl [HX1]; · iexact HX1
    isplitl [HX2]; · iexact HX2
    iexact HX3
  iintro %r ⟨%hr, HX1, HX2, HX3⟩
  obtain ⟨d0, v2⟩ := r
  have hr' : c = d0 := hr.symm
  subst hr'
  dsimp only
  iapply (seq c (part2 m c _)) $$ [HX0 HX4 HX5 HX6]
  · isplitl [HX0]; · iexact HX0
    isplitl [HX4]; · iexact HX4
    isplitl [HX5]; · iexact HX5
    iexact HX6
  iintro %_ ⟨HX0, HX4, HX5, HX6⟩
  iapply (seq c (part3 m c _)) $$ [HX7 HO HG0 HG1 HG2 HG3 HG4 HG5 HG6 HG7 HB]
  · isplitr; · iexact HI
    isplitr; · iexact Hl
    isplitl [HX7]; · iexact HX7
    isplitl [HO]; · iexact HO
    isplitl [HG0]; · iexact HG0
    isplitl [HG1]; · iexact HG1
    isplitl [HG2]; · iexact HG2
    isplitl [HG3]; · iexact HG3
    isplitl [HG4]; · iexact HG4
    isplitl [HG5]; · iexact HG5
    isplitl [HG6]; · iexact HG6
    isplitl [HG7]; · iexact HG7
    iexact HB
  iintro %_ ⟨HX7, HO, HBz, HD1, HD2, HD3, HD4, HD5, HD6, HD7, HD8⟩
  iapply (seq c (part4 m c _ _)) $$ [HW0 HA0 HW1 HA1 HX1 HO]
  · isplitr; · iexact Hl
    isplitl [HW0]; · iexact HW0
    isplitl [HA0]; · iexact HA0
    isplitl [HW1]; · iexact HW1
    isplitl [HA1]; · iexact HA1
    isplitl [HX1]; · iexact HX1
    iexact HO
  iintro %r ⟨%hr, HW0, HW1, HX1, HO⟩
  subst hr
  iapply (seq c (part5 m c _)) $$ [HS1 HD1 HK1 HO HX2 HS2]
  · isplitr; · iexact HI
    isplitr; · iexact Hl
    isplitl [HS1]; · iexact HS1
    isplitl [HD1]; · iexact HD1
    isplitl [HK1]; · iexact HK1
    isplitl [HO]; · iexact HO
    isplitl [HX2]; · iexact HX2
    iexact HS2
  iintro %_ ⟨HO, HQ1, HX2, HT2⟩
  iapply (seq c (part6 m c _ _)) $$ [HT2 HD2 HK2 HO HX3 HS3]
  · isplitr; · iexact HI
    isplitr; · iexact Hl
    isplitl [HT2]; · iexact HT2
    isplitl [HD2]; · iexact HD2
    isplitl [HK2]; · iexact HK2
    isplitl [HO]; · iexact HO
    isplitl [HX3]; · iexact HX3
    iexact HS3
  iintro %_ ⟨HO, HQ2, HX3, HT3⟩
  iapply (seq c (part7 m c _)) $$ [HT3 HD3 HK3 HO HX4 HS4 HD4 HK4]
  · isplitr; · iexact HI
    isplitr; · iexact Hl
    isplitl [HT3]; · iexact HT3
    isplitl [HD3]; · iexact HD3
    isplitl [HK3]; · iexact HK3
    isplitl [HO]; · iexact HO
    isplitl [HX4]; · iexact HX4
    isplitl [HS4]; · iexact HS4
    isplitl [HD4]; · iexact HD4
    iexact HK4
  iintro %_ ⟨HO, HQ3, HX4, HQ4⟩
  iapply (seq c (part8 m c _)) $$ [HX0 HO HW0 HY HA2]
  · isplitr; · iexact Hl
    isplitl [HX0]; · iexact HX0
    isplitl [HO]; · iexact HO
    isplitl [HW0]; · iexact HW0
    isplitl [HY]; · iexact HY
    iexact HA2
  iintro %_ ⟨HX0, HO, HW0, HA0, HY⟩
  iapply (seq c (part9 m c _)) $$ [HR1 HO HX5 HS5]
  · isplitr; · iexact HI
    isplitr; · iexact Hl
    isplitl [HR1]; · iexact HR1
    isplitl [HO]; · iexact HO
    isplitl [HX5]; · iexact HX5
    iexact HS5
  iintro %_ ⟨HR1, HO, HZ1, HX5, HT5⟩
  iapply (seq c (part10 m c _)) $$ [HT5 HD5 HK5 HO HW1 HY HR1 HA3]
  · isplitr; · iexact HI
    isplitr; · iexact Hl
    isplitl [HT5]; · iexact HT5
    isplitl [HD5]; · iexact HD5
    isplitl [HK5]; · iexact HK5
    isplitl [HO]; · iexact HO
    isplitl [HW1]; · iexact HW1
    isplitl [HY]; · iexact HY
    isplitl [HR1]; · iexact HR1
    iexact HA3
  iintro %_ ⟨HO, HQ5, HW1, HA1, HY, HR1⟩
  iapply (seq c (part11 m c _ _ _)) $$ [HR2 HO HX6 HS6]
  · isplitr; · iexact HI
    isplitr; · iexact Hl
    isplitl [HR2]; · iexact HR2
    isplitl [HO]; · iexact HO
    isplitl [HX6]; · iexact HX6
    iexact HS6
  iintro %_ ⟨HR2, HO, HZ2, HX6, HT6⟩
  iapply (seq c (part12 m c _)) $$ [HT6 HD6 HK6 HO HW0 HY HR2 HA4]
  · isplitr; · iexact HI
    isplitr; · iexact Hl
    isplitl [HT6]; · iexact HT6
    isplitl [HD6]; · iexact HD6
    isplitl [HK6]; · iexact HK6
    isplitl [HO]; · iexact HO
    isplitl [HW0]; · iexact HW0
    isplitl [HY]; · iexact HY
    isplitl [HR2]; · iexact HR2
    iexact HA4
  iintro %_ ⟨HO, HQ6, HW0, HA2, HY, HR2⟩
  iapply (seq c (part13 m c _)) $$ [HR3 HO HX7 HS7 HD7 HK7]
  · isplitr; · iexact HI
    isplitr; · iexact Hl
    isplitl [HR3]; · iexact HR3
    isplitl [HO]; · iexact HO
    isplitl [HX7]; · iexact HX7
    isplitl [HS7]; · iexact HS7
    isplitl [HD7]; · iexact HD7
    iexact HK7
  iintro %_ ⟨HR3, HO, HZ3, HX7, HT8, HQ7⟩
  iapply (seq c (part14 m c _ _)) $$ [HT8 HD8 HK8 HO HW1 HY HR3]
  · isplitr; · iexact HI
    isplitr; · iexact Hl
    isplitl [HT8]; · iexact HT8
    isplitl [HD8]; · iexact HD8
    isplitl [HK8]; · iexact HK8
    isplitl [HO]; · iexact HO
    isplitl [HW1]; · iexact HW1
    isplitl [HY]; · iexact HY
    iexact HR3
  iintro %_ ⟨HO, HQ8, HW1, HA3, HY, HR3⟩
  iapply (seq c (part15 m c _)) $$ [HW1 HA5 HR4 HO HW0 HY]
  · isplitr; · iexact HI
    isplitr; · iexact Hl
    isplitl [HW1]; · iexact HW1
    isplitl [HA5]; · iexact HA5
    isplitl [HR4]; · iexact HR4
    isplitl [HO]; · iexact HO
    isplitl [HW0]; · iexact HW0
    iexact HY
  iintro %_ ⟨HW1, HR4, HO, HZ4, HW0, HA4, HY⟩
  iapply (seq c (part16 m c _ _)) $$ [HW0 HA6 HR5 HO HW1 HY]
  · isplitr; · iexact HI
    isplitr; · iexact Hl
    isplitl [HW0]; · iexact HW0
    isplitl [HA6]; · iexact HA6
    isplitl [HR5]; · iexact HR5
    isplitl [HO]; · iexact HO
    isplitl [HW1]; · iexact HW1
    iexact HY
  iintro %r ⟨%hr, HW0, HR5, HO, HZ5, HW1, HA5, HY⟩
  subst hr
  iapply (seq c (part17 m c _)) $$ [HY HW1 HA7 HR6 HO HW0]
  · isplitr; · iexact HI
    isplitr; · iexact Hl
    isplitl [HY]; · iexact HY
    isplitl [HW1]; · iexact HW1
    isplitl [HA7]; · iexact HA7
    isplitl [HR6]; · iexact HR6
    isplitl [HO]; · iexact HO
    iexact HW0
  iintro %r ⟨%hr, HY, HW1, HR6, HO, HZ6, HW0, HA6⟩
  subst hr
  dsimp only
  iapply (seq c (part18 m c _)) $$ [HW0 HY HW1 HO HR7]
  · isplitr; · iexact HI
    isplitr; · iexact Hl
    isplitl [HW0]; · iexact HW0
    isplitl [HY]; · iexact HY
    isplitl [HW1]; · iexact HW1
    isplitl [HO]; · iexact HO
    iexact HR7
  iintro %_ ⟨HW0, HY, HW1, HO, HA7, HR7, HZ7⟩
  iapply (seq c (part19 m c _)) $$ [HR8 HO HY HW1 HQ1 HP1 HQ2 HP2]
  · isplitr; · iexact HI
    isplitr; · iexact Hl
    isplitl [HR8]; · iexact HR8
    isplitl [HO]; · iexact HO
    isplitl [HY]; · iexact HY
    isplitl [HW1]; · iexact HW1
    isplitl [HQ1]; · iexact HQ1
    isplitl [HP1]; · iexact HP1
    isplitl [HQ2]; · iexact HQ2
    iexact HP2
  iintro %_ ⟨HR8, HO, HZ8, HY, HW1, HQ1, HQ2⟩
  iapply (seq c (part20 m c)) $$ [HQ3 HP3 HO HQ4 HP4 HQ5 HP5 HQ6 HP6 HQ7 HP7]
  · isplitr; · iexact HI
    isplitl [HQ3]; · iexact HQ3
    isplitl [HP3]; · iexact HP3
    isplitl [HO]; · iexact HO
    isplitl [HQ4]; · iexact HQ4
    isplitl [HP4]; · iexact HP4
    isplitl [HQ5]; · iexact HQ5
    isplitl [HP5]; · iexact HP5
    isplitl [HQ6]; · iexact HQ6
    isplitl [HP6]; · iexact HP6
    isplitl [HQ7]; · iexact HQ7
    iexact HP7
  iintro %_ ⟨HQ3, HO, HQ4, HQ5, HQ6, HQ7⟩
  iapply (sw256 m c 8 (by decide) (by decide) rfl) $$ HI HQ8 HP8 HO
  iintro ⟨HQ8, HO⟩
  iapply (done c)
  unfold bodyOut
  isplitl [HX0 HX1 HX2 HX3 HX4 HX5 HX6 HX7 HA0 HA1 HA2 HA3 HA4 HA5 HA6 HA7 HW0 HW1 HR1 HR2 HR3 HR4 HR5 HR6 HR7 HR8 HZ1 HZ2 HZ3 HZ4 HZ5 HZ6 HZ7 HZ8 HBz HQ1 HQ2 HQ3 HQ4 HQ5 HQ6 HQ7 HQ8 HY]
  · isplitl [HX0 HX1 HX2 HX3 HX4 HX5 HX6 HX7]
    · isplitl [HX0]; · iexact HX0
      isplitl [HX1]; · iexact HX1
      isplitl [HX2]; · iexact HX2
      isplitl [HX3]; · iexact HX3
      isplitl [HX4]; · iexact HX4
      isplitl [HX5]; · iexact HX5
      isplitl [HX6]; · iexact HX6
      iexact HX7
    isplitl [HA0 HA1 HA2 HA3 HA4 HA5 HA6 HA7]
    · isplitl [HA0]; · iexact HA0
      isplitl [HA1]; · iexact HA1
      isplitl [HA2]; · iexact HA2
      isplitl [HA3]; · iexact HA3
      isplitl [HA4]; · iexact HA4
      isplitl [HA5]; · iexact HA5
      isplitl [HA6]; · iexact HA6
      iexact HA7
    isplitl [HW0 HW1]
    · isplitl [HW0]; · iexact HW0
      iexact HW1
    isplitl [HR1 HR2 HR3 HR4 HR5 HR6 HR7 HR8]
    · isplitl [HR1]; · iexact HR1
      isplitl [HR2]; · iexact HR2
      isplitl [HR3]; · iexact HR3
      isplitl [HR4]; · iexact HR4
      isplitl [HR5]; · iexact HR5
      isplitl [HR6]; · iexact HR6
      isplitl [HR7]; · iexact HR7
      iexact HR8
    isplitl [HZ1 HZ2 HZ3 HZ4 HZ5 HZ6 HZ7 HZ8]
    · isplitl [HZ1]; · iexact HZ1
      isplitl [HZ2]; · iexact HZ2
      isplitl [HZ3]; · iexact HZ3
      isplitl [HZ4]; · iexact HZ4
      isplitl [HZ5]; · iexact HZ5
      isplitl [HZ6]; · iexact HZ6
      isplitl [HZ7]; · iexact HZ7
      iexact HZ8
    isplitl [HBz]; · iexact HBz
    isplitl [HQ1 HQ2 HQ3 HQ4 HQ5 HQ6 HQ7 HQ8]
    · isplitl [HQ1]; · iexact HQ1
      isplitl [HQ2]; · iexact HQ2
      isplitl [HQ3]; · iexact HQ3
      isplitl [HQ4]; · iexact HQ4
      isplitl [HQ5]; · iexact HQ5
      isplitl [HQ6]; · iexact HQ6
      isplitl [HQ7]; · iexact HQ7
      iexact HQ8
    iexact HY
  iexact HO

end Cert.KP
-- ==== Proof.Split.lean ====
/-
  The buffers cut into the blocks the body works on, and put together again.
-/
module

public import proofs.«01_k».proof.Proof.Body

@[expose] public section

set_option maxRecDepth 16384

noncomputable section

namespace Cert.KP

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Ring (pointsTo_blocks pointsTo_blocks_join_exists)

variable {F : FTy → Type} [FloatOps F]

local notation "𝕄" => MT nD τ sig Unit (Elt F) ℕ UU ℕ

variable (m : (ℓ : Loc nD τ sig) → Buf (Elt F) ℓ)

/-! ## Conjunctions over a few indices -/

/-- A conjunction over two. -/
theorem fin2 (Φ : Fin 2 → sProp 𝕄) : bigSep Finset.univ Φ = iprop(Φ 0 ∗ Φ 1) :=
  bigSep_univ_eq_bigSepL [0, 1] (by decide) (by decide) Φ
/-- A conjunction over eight. -/
theorem fin8 (Φ : Fin 8 → sProp 𝕄) : bigSep Finset.univ Φ = iprop(Φ 0 ∗ Φ 1 ∗ Φ 2 ∗ Φ 3 ∗ Φ 4 ∗ Φ 5 ∗ Φ 6 ∗ Φ 7) :=
  bigSep_univ_eq_bigSepL [0, 1, 2, 3, 4, 5, 6, 7] (by decide) (by decide) Φ
/-- A conjunction over nine, the first apart. -/
theorem fin9 (Φ : Fin 9 → sProp 𝕄) : bigSep Finset.univ Φ = iprop(Φ 0 ∗ bigSep Finset.univ fun k : Fin 8 => Φ k.succ) := by
  rw [bigSep_univ_eq_bigSepL [0, 1, 2, 3, 4, 5, 6, 7, 8] (by decide) (by decide) Φ, fin8]; rfl
/-- Three parts, bracketed to the right. -/
theorem sep_right (P Q R : sProp 𝕄) : iprop((P ∗ Q) ∗ R) = iprop(P ∗ Q ∗ R) := equiv_iff.mp ⟨BI.sep_assoc, BI.sep_assoc'⟩
/-- The cells' semaphores: the barrier's, the eight of leaving and the eight of arrival. -/
theorem fin17 (Φ : SemLoc sig → sProp 𝕄) : bigSep Finset.univ (fun i : Fin 17 => Φ (csem i))
    = iprop(Φ (.reg barS) ∗ (bigSep Finset.univ fun k : Fin 8 => Φ (.dma (sendS k.succ))) ∗ bigSep Finset.univ fun k : Fin 8 => Φ (.dma (recvS k.succ))) := by
  rw [bigSep_univ_eq_bigSepL [0, 1, 2, 3, 4, 5, 6, 7, 8, 9, 10, 11, 12, 13, 14, 15, 16] (by decide) (by decide), fin8, fin8]
  simp only [sep_right]
  rfl

/-- What is held of one array is held of some array each time. -/
theorem some_each {B X : Type} [Fintype B] {Φ : B → X → sProp 𝕄} (f : X) : (bigSep Finset.univ fun b => Φ b f) ⊢ bigSep Finset.univ fun b => iprop(∃ f, Φ b f) :=
  bigSep_mono fun b _ => exists_intro (Φ := fun f => Φ b f) f

/-! ## Devices counted from one of them -/

/-- From `r` places on, the gap back to `c` is `r`. -/
theorem gap_up : ∀ (c : Dev nD) (r : Fin 8), gap (up c r.val) c = r := by decide
/-- From `c`, the gap to `r` places back is `r`. -/
theorem gap_dn : ∀ (c : Dev nD) (r : Fin 8), gap c (dn c r.val) = r := by decide
/-- As far back as the gap says is the device. -/
theorem dn_gap : ∀ c d : Dev nD, dn c (gap c d).val = d := by decide
/-- From a device to itself there is no gap. -/
theorem gap_self : ∀ c : Dev nD, gap c c = 0 := by decide
/-- The devices by their distance after `c`. -/
def upE (c : Dev nD) : Fin 8 ≃ Dev nD := ⟨fun r => up c r.val, fun d => gap d c, gap_up c, fun d => up_gap d c⟩
/-- The devices by their distance before `c`. -/
def dnE (c : Dev nD) : Fin 8 ≃ Dev nD := ⟨fun r => dn c r.val, fun d => gap c d, gap_dn c, fun d => dn_gap c d⟩

/-! ## Blocks of rows -/

/-- Two blocks of rows have none in common. -/
theorem rows_disj (b b' : Fin 8) (h : b ≠ b') : Disjoint (rows (512 * b.val) 512) (rows (512 * b'.val) 512) := by
  rw [Finset.disjoint_left]; intro i h1 h2
  rw [mem_rows] at h1 h2; exact h (Fin.ext (by omega))
/-- The eight blocks are all rows. -/
theorem rows_cover : Finset.univ.biUnion (fun b : Fin 8 => rows (512 * b.val) 512) = Finset.univ := by
  ext i
  have hi : (i 0).val < 4096 := (i 0).isLt
  simp only [Finset.mem_biUnion, Finset.mem_univ, true_and, iff_true]
  exact ⟨⟨(i 0).val / 512, by omega⟩, mem_rows.mpr ⟨by dsimp only; omega, by dsimp only; omega⟩⟩
/-- Two row blocks of `w` have no row in common. -/
theorem wrows_disj (b b' : Fin 8) (h : b ≠ b') : Disjoint (wrows (512 * b.val)) (wrows (512 * b'.val)) := by
  rw [Finset.disjoint_left]; intro i h1 h2
  rw [mem_wrows] at h1 h2; exact h (Fin.ext (by omega))
/-- The eight row blocks are all of `w`. -/
theorem wrows_cover : Finset.univ.biUnion (fun b : Fin 8 => wrows (512 * b.val)) = Finset.univ := by
  ext i
  have hi : (i 0).val < 4096 := (i 0).isLt
  simp only [Finset.mem_biUnion, Finset.mem_univ, true_and, iff_true]
  exact ⟨⟨(i 0).val / 512, by omega⟩, mem_wrows.mpr ⟨by dsimp only; omega, by dsimp only; omega⟩⟩
/-- The two slots have nothing in common. -/
theorem wslot_disj (b b' : Fin 2) (h : b ≠ b') : Disjoint (wslot b.val) (wslot b'.val) := by
  rw [Finset.disjoint_left]; intro i h1 h2
  rw [mem_wslot] at h1 h2; exact h (Fin.ext (by omega))
/-- The two slots are the whole buffer. -/
theorem wslot_cover : Finset.univ.biUnion (fun b : Fin 2 => wslot b.val) = Finset.univ := by
  ext i
  have hi : (i 0).val < 2 := (i 0).isLt
  simp only [Finset.mem_biUnion, Finset.mem_univ, true_and, iff_true]
  exact ⟨⟨(i 0).val, hi⟩, mem_wslot.mpr rfl⟩

/-! ## Whole buffers -/

/-- A buffer of device `c` held whole at contents `f`, and held whole at some contents. -/
abbrev at_ (c : Dev nD) (b : Ref sig .tc) (f : Buf (Elt F) ((c : Thread nD τ).loc b)) : sProp 𝕄 := ((c : Thread nD τ).loc b) ↦{fullShare} f
/-- A buffer, whole, whatever it holds. -/
abbrev any_ (c : Dev nD) (b : Ref sig .tc) : sProp 𝕄 := iprop(∃ f : Buf (Elt F) ((c : Thread nD τ).loc b), ((c : Thread nD τ).loc b) ↦{fullShare} f)

/-- The buffer of `x` is its eight blocks. -/
theorem x_blocks (c : Dev nD) (f : S4096x512.Idx → Elt F .f32) : at_ c cc0_scratch0 f = bigSep Finset.univ fun r : Fin 8 => XP c (512 * (up c r.val).val) 512 f :=
  (pointsTo_blocks (ℓ := (c : Thread nD τ).loc cc0_scratch0) (fun b : Fin 8 => rows (512 * b.val) 512) rows_disj rows_cover f).trans (bigSep_univ_equiv (upE c) fun b => XP c (512 * b.val) 512 f)
/-- The argument `x` is its eight blocks. -/
theorem xa_blocks (c : Dev nD) : at_ c main_arg0 (XV m c) = bigSep Finset.univ fun r : Fin 8 => XA m c (512 * (up c r.val).val) 512 :=
  (pointsTo_blocks (ℓ := (c : Thread nD τ).loc main_arg0) (fun b : Fin 8 => rows (512 * b.val) 512) rows_disj rows_cover (XV m c)).trans (bigSep_univ_equiv (upE c) fun b => XA m c (512 * b.val) 512)
/-- The argument `w` is its eight row blocks. -/
theorem wa_blocks (c : Dev nD) : at_ c main_arg1 (WV m c) = bigSep Finset.univ fun s : Fin 8 => A m c s.val :=
  (pointsTo_blocks (ℓ := (c : Thread nD τ).loc main_arg1) (fun b : Fin 8 => wrows (512 * b.val)) wrows_disj wrows_cover (WV m c)).trans (bigSep_univ_equiv (dnE c) fun b => WA m c (512 * b.val))
/-- The staging buffer is its eight blocks. -/
theorem s_blocks (c : Dev nD) (f : S4096x512.Idx → Elt F .bf16) : at_ c cc0_scratch1 f = bigSep Finset.univ fun r : Fin 8 => SP c (512 * (up c r.val).val) 512 f :=
  (pointsTo_blocks (ℓ := (c : Thread nD τ).loc cc0_scratch1) (fun b : Fin 8 => rows (512 * b.val) 512) rows_disj rows_cover f).trans (bigSep_univ_equiv (upE c) fun b => SP c (512 * b.val) 512 f)
/-- The landing buffer is its eight slots. -/
theorem c_blocks (c : Dev nD) (f : S4096x512.Idx → Elt F .bf16) : at_ c cc0_scratch2 f = bigSep Finset.univ fun b : Fin 8 => CP c (512 * b.val) 512 f :=
  pointsTo_blocks (ℓ := (c : Thread nD τ).loc cc0_scratch2) (fun b : Fin 8 => rows (512 * b.val) 512) rows_disj rows_cover f
/-- The buffer of `w` blocks is its two slots. -/
theorem wp_blocks (c : Dev nD) (f : S2x512x2048.Idx → Elt F .f32) : at_ c cc0_scratch6 f = bigSep Finset.univ fun k : Fin 2 => WP c k.val f :=
  pointsTo_blocks (ℓ := (c : Thread nD τ).loc cc0_scratch6) (fun b : Fin 2 => wslot b.val) wslot_disj wslot_cover f

include m in
/-- Eight staged blocks are a staging buffer again. -/
theorem s_join (c : Dev nD) : (bigSep Finset.univ fun r : Fin 8 => S0 (F := F) c r.val) ⊢ any_ (F := F) c cc0_scratch1 :=
  (Entails.of_eq (bigSep_univ_equiv (upE c) fun b : Dev nD => iprop(∃ f, SP (F := F) c (512 * b.val) 512 f)).symm).trans
    (pointsTo_blocks_join_exists (ℓ := (c : Thread nD τ).loc cc0_scratch1) (fun b : Fin 8 => rows (512 * b.val) 512) rows_disj rows_cover (XB m c))
include m in
/-- Eight slots are a landing buffer again. -/
theorem c_join (c : Dev nD) : (bigSep Finset.univ fun b : Fin 8 => iprop(∃ f, CP (F := F) c (512 * b.val) 512 f)) ⊢ any_ (F := F) c cc0_scratch2 :=
  pointsTo_blocks_join_exists (ℓ := (c : Thread nD τ).loc cc0_scratch2) (fun b : Fin 8 => rows (512 * b.val) 512) rows_disj rows_cover (CM m c)
include m in
/-- Two slots are a buffer of `w` blocks again. -/
theorem wp_join (c : Dev nD) : (bigSep Finset.univ fun k : Fin 2 => iprop(∃ f, WP (F := F) c k.val f)) ⊢ any_ (F := F) c cc0_scratch6 :=
  pointsTo_blocks_join_exists (ℓ := (c : Thread nD τ).loc cc0_scratch6) (fun b : Fin 2 => wslot b.val) wslot_disj wslot_cover (W3 m c c)

/-! ## In: the pieces the body starts from -/

/-- Before the body: the buffer of `x`, the argument and the semaphores, block by block. -/
theorem in_x (c : Dev nD) :
    iprop(any_ (F := F) c cc0_scratch0 ∗ at_ c main_arg0 (XV m c) ∗ bigSep Finset.univ fun r : Fin 8 => semVal ((c : Thread nD τ), .dma (xS r)) 0)
      ⊢ iprop(X0 m c 0 ∗ X0 m c 1 ∗ X0 m c 2 ∗ X0 m c 3 ∗ X0 m c 4 ∗ X0 m c 5 ∗ X0 m c 6 ∗ X0 m c 7) := by
  rw [show iprop(X0 m c 0 ∗ X0 m c 1 ∗ X0 m c 2 ∗ X0 m c 3 ∗ X0 m c 4 ∗ X0 m c 5 ∗ X0 m c 6 ∗ X0 m c 7) = bigSep Finset.univ fun r : Fin 8 => X0 m c r.val from (fin8 fun r => X0 m c r.val).symm]
  unfold X0
  rw [bigSep_sep', bigSep_sep', xa_blocks, bigSep_univ_equiv (upE c) fun r : Dev nD => (semVal ((c : Thread nD τ), .dma (xS r)) 0 : sProp 𝕄)]
  iintro ⟨⟨%f, H⟩, HA, HV⟩
  isplitl [H]
  · iapply ((Entails.of_eq (x_blocks c f)).trans (some_each f)) $$ H
  isplitl [HA]; · iexact HA
  iexact HV

/-- Before the body: the argument `w`, row block by row block. -/
theorem in_w (c : Dev nD) : at_ c main_arg1 (WV m c) = iprop(A m c 0 ∗ A m c 1 ∗ A m c 2 ∗ A m c 3 ∗ A m c 4 ∗ A m c 5 ∗ A m c 6 ∗ A m c 7) :=
  (wa_blocks m c).trans (fin8 fun s => A m c s.val)

/-- Before the body: the two free slots. -/
theorem in_wp (c : Dev nD) :
    iprop(any_ (F := F) c cc0_scratch6 ∗ bigSep Finset.univ fun k : Fin 2 => semVal ((c : Thread nD τ), .dma (wS k)) 0) ⊢ iprop(W0 (F := F) c 0 ∗ W0 (F := F) c 1) := by
  rw [← fin2 (fun k => W0 (F := F) c k)]
  unfold W0
  rw [bigSep_sep']
  iintro ⟨⟨%f, H⟩, HV⟩
  isplitl [H]
  · iapply ((Entails.of_eq (wp_blocks c f)).trans (some_each f)) $$ H
  iexact HV

/-- Before the body: the staging buffer, block by block. -/
theorem in_s (c : Dev nD) : any_ (F := F) c cc0_scratch1 ⊢ iprop(S0 (F := F) c 0 ∗ S0 (F := F) c 1 ∗ S0 (F := F) c 2 ∗ S0 (F := F) c 3 ∗ S0 (F := F) c 4 ∗ S0 (F := F) c 5 ∗ S0 (F := F) c 6 ∗ S0 (F := F) c 7) := by
  rw [show iprop(S0 (F := F) c 0 ∗ S0 (F := F) c 1 ∗ S0 (F := F) c 2 ∗ S0 (F := F) c 3 ∗ S0 (F := F) c 4 ∗ S0 (F := F) c 5 ∗ S0 (F := F) c 6 ∗ S0 (F := F) c 7) = bigSep Finset.univ fun r : Fin 8 => S0 (F := F) c r.val from (fin8 fun r => S0 (F := F) c r.val).symm]
  iintro ⟨%f, H⟩
  iapply ((Entails.of_eq (s_blocks c f)).trans (some_each f)) $$ H

/-- The duties device `c` pays at the others' barriers. -/
def sigToks (c : Dev nD) : sProp 𝕄 := bigSep Finset.univ fun j : Dev nD => if j = c then iprop(emp) else dutyTok ER (barCell j) 0 (gap c j)
/-- The landing slot no message goes to. -/
def own0 (c : Dev nD) : sProp 𝕄 := iprop(∃ f, CP (F := F) c (512 * 0) 512 f)

/-- Before the body: the landing buffer, each slot with the signal that hands it over. -/
theorem in_c (c : Dev nD) :
    iprop(any_ (F := F) c cc0_scratch2 ∗ sigToks (F := F) c) ⊢ iprop(own0 (F := F) c ∗ sigRes (F := F) c 0 ∗ sigRes (F := F) c 1 ∗ sigRes (F := F) c 2 ∗ sigRes (F := F) c 3 ∗ sigRes (F := F) c 4 ∗ sigRes (F := F) c 5 ∗ sigRes (F := F) c 6 ∗ sigRes (F := F) c 7) := by
  rw [show iprop(sigRes (F := F) c 0 ∗ sigRes (F := F) c 1 ∗ sigRes (F := F) c 2 ∗ sigRes (F := F) c 3 ∗ sigRes (F := F) c 4 ∗ sigRes (F := F) c 5 ∗ sigRes (F := F) c 6 ∗ sigRes (F := F) c 7) = bigSep Finset.univ fun j : Dev nD => sigRes (F := F) c j from (fin8 fun j => sigRes (F := F) c j).symm]
  have hs : any_ (F := F) c cc0_scratch2 ⊢ bigSep Finset.univ fun j : Dev nD => iprop(∃ f, CP (F := F) c (512 * (gap c j).val) 512 f) := by
    refine BIBase.Entails.trans ?_ (Entails.of_eq (bigSep_univ_equiv (dnE c).symm fun b : Fin 8 => iprop(∃ f, CP (F := F) c (512 * b.val) 512 f)))
    iintro ⟨%f, H⟩
    iapply ((Entails.of_eq (c_blocks c f)).trans (some_each f)) $$ H
  have h1 : (bigSep Finset.univ fun j : Dev nD => iprop(∃ f, CP (F := F) c (512 * (gap c j).val) 512 f))
      = iprop((∃ f, CP (F := F) c (512 * (gap c c).val) 512 f) ∗ bigSep (Finset.univ.erase c) fun j : Dev nD => iprop(∃ f, CP (F := F) c (512 * (gap c j).val) 512 f)) :=
    bigSep_erase (Finset.mem_univ c)
  have h2 : (bigSep Finset.univ fun j : Dev nD => sigRes (F := F) c j) = iprop(emp ∗ bigSep (Finset.univ.erase c) fun j : Dev nD =>
      iprop(dutyTok ER (barCell j) 0 (gap c j) ∗ ∃ f, CP (F := F) c (512 * (gap c j).val) 512 f)) := by
    rw [bigSep_erase (Finset.mem_univ c), bigSep_congr (s := Finset.univ.erase c) fun j hj => show sigRes (F := F) c j = _ from if_neg (Finset.mem_erase.mp hj).1,
      show sigRes (F := F) c c = iprop(emp) from if_pos rfl]
    rfl
  have h3 : sigToks (F := F) c = iprop(emp ∗ bigSep (Finset.univ.erase c) fun j : Dev nD => dutyTok ER (barCell j) 0 (gap c j)) := by
    unfold sigToks
    rw [bigSep_erase (Finset.mem_univ c), if_pos rfl, bigSep_congr (s := Finset.univ.erase c) fun j hj => if_neg (Finset.mem_erase.mp hj).1]
    rfl
  rw [h2, h3, bigSep_sep']
  rw [h1, gap_self] at hs
  iintro ⟨H, -, HT⟩
  ihave H := hs $$ H
  icases H with ⟨H0, H⟩
  isplitl [H0]
  · unfold own0; iexact H0
  isplitr; · iempintro
  isplitl [HT]; · iexact HT
  iexact H

/-! ## Out: the buffers whole again -/

/-- After the body: the buffer of `x`, the argument and the semaphores, whole. -/
theorem out_x (c : Dev nD) :
    iprop(X2 m c 0 ∗ X2 m c 1 ∗ X2 m c 2 ∗ X2 m c 3 ∗ X2 m c 4 ∗ X2 m c 5 ∗ X2 m c 6 ∗ X2 m c 7)
      ⊢ iprop(any_ (F := F) c cc0_scratch0 ∗ at_ c main_arg0 (XV m c) ∗ bigSep Finset.univ fun r : Fin 8 => semVal ((c : Thread nD τ), .dma (xS r)) 0) := by
  rw [show iprop(X2 m c 0 ∗ X2 m c 1 ∗ X2 m c 2 ∗ X2 m c 3 ∗ X2 m c 4 ∗ X2 m c 5 ∗ X2 m c 6 ∗ X2 m c 7) = bigSep Finset.univ fun r : Fin 8 => X2 m c r.val from (fin8 fun r => X2 m c r.val).symm]
  unfold X2
  rw [bigSep_sep', bigSep_sep', xa_blocks, bigSep_univ_equiv (upE c) fun r : Dev nD => (semVal ((c : Thread nD τ), .dma (xS r)) 0 : sProp 𝕄),
    ← x_blocks]
  iintro ⟨H, HA, HV⟩
  isplitl [H]
  · iexists (XV m c); iexact H
  isplitl [HA]; · iexact HA
  iexact HV

/-- After the body: the two slots, whole. -/
theorem out_wp (c : Dev nD) :
    iprop(W2 m c 0 6 ∗ W2 m c 1 7) ⊢ iprop(any_ (F := F) c cc0_scratch6 ∗ bigSep Finset.univ fun k : Fin 2 => semVal ((c : Thread nD τ), .dma (wS k)) 0) := by
  have h : iprop(W0 (F := F) c 0 ∗ W0 (F := F) c 1) ⊢ iprop(any_ (F := F) c cc0_scratch6 ∗ bigSep Finset.univ fun k : Fin 2 => semVal ((c : Thread nD τ), .dma (wS k)) 0) := by
    rw [← fin2 (fun k => W0 (F := F) c k)]
    unfold W0
    rw [bigSep_sep']
    iintro ⟨H, HV⟩
    isplitl [H]; · iapply (wp_join m c) $$ H
    iexact HV
  iintro ⟨H0, H1⟩
  iapply h
  isplitl [H0]; · iapply (W2_W0 m c 0 6) $$ H0
  iapply (W2_W0 m c 1 7) $$ H1

/-- Staged rows are a block of the staging buffer. -/
theorem T_S0 (c : Dev nD) (k : Fin 9) (hk : k.val ≤ 6) : T m c k ⊢ S0 (F := F) c k.val := by
  unfold T S0; rw [slo_small c k hk, mlen_small k hk]
  iintro H; iexists (XB m c); iexact H
/-- The two staged halves are the last block of the staging buffer. -/
theorem T_S0_last (c : Dev nD) : iprop(T m c 7 ∗ T m c 8) ⊢ S0 (F := F) c 7 := by
  refine Entails.trans (Q := SP c (512 * (up c 7).val) 512 (XB m c)) ?_ (by unfold S0; iintro H; iexists (XB m c); iexact H)
  unfold T SP
  rw [rows_halves]
  exact (pointsTo_union (rows_halves_disjoint _)).2

/-- After the body: the staging buffer, whole, and the send semaphores at zero. -/
theorem out_s (c : Dev nD) : iprop(S0 (F := F) c 0 ∗ Z m c 1 ∗ Z m c 2 ∗ Z m c 3 ∗ Z m c 4 ∗ Z m c 5 ∗ Z m c 6 ∗ Z m c 7 ∗ Z m c 8)
    ⊢ iprop(any_ (F := F) c cc0_scratch1 ∗ bigSep Finset.univ fun k : Fin 8 => semVal (sendCell c k.succ) 0) := by
  rw [fin8 fun k => (semVal (sendCell c k.succ) 0 : sProp 𝕄)]
  unfold Z
  iintro ⟨H0, ⟨HT1, HV1⟩, ⟨HT2, HV2⟩, ⟨HT3, HV3⟩, ⟨HT4, HV4⟩, ⟨HT5, HV5⟩, ⟨HT6, HV6⟩, ⟨HT7, HV7⟩, ⟨HT8, HV8⟩⟩
  isplitl [H0 HT1 HT2 HT3 HT4 HT5 HT6 HT7 HT8]
  · iapply (s_join m c)
    iapply (Entails.of_eq (fin8 fun r => S0 (F := F) c r.val).symm)
    isplitl [H0]; · iexact H0
    isplitl [HT1]; · iapply (T_S0 m c 1 (by decide)) $$ HT1
    isplitl [HT2]; · iapply (T_S0 m c 2 (by decide)) $$ HT2
    isplitl [HT3]; · iapply (T_S0 m c 3 (by decide)) $$ HT3
    isplitl [HT4]; · iapply (T_S0 m c 4 (by decide)) $$ HT4
    isplitl [HT5]; · iapply (T_S0 m c 5 (by decide)) $$ HT5
    isplitl [HT6]; · iapply (T_S0 m c 6 (by decide)) $$ HT6
    iapply (T_S0_last m c)
    isplitl [HT7]; · iexact HT7
    iexact HT8
  isplitl [HV1]; · iexact HV1
  isplitl [HV2]; · iexact HV2
  isplitl [HV3]; · iexact HV3
  isplitl [HV4]; · iexact HV4
  isplitl [HV5]; · iexact HV5
  isplitl [HV6]; · iexact HV6
  isplitl [HV7]; · iexact HV7
  iexact HV8

/-- Landed rows are a slot of the landing buffer. -/
theorem R1_slot (c : Dev nD) (k : Fin 9) (hk : k.val ≤ 6) : R1 m c k ⊢ iprop(∃ f, CP (F := F) c (512 * k.val) 512 f) := by
  unfold R1; rw [clo_small k (by omega), mlen_small k hk]
  iintro H; iexists (CM m c); iexact H
/-- The two landed halves are the last slot of the landing buffer. -/
theorem R1_slot_last (c : Dev nD) : iprop(R1 m c 7 ∗ R1 m c 8) ⊢ iprop(∃ f, CP (F := F) c (512 * 7) 512 f) := by
  refine Entails.trans (Q := CP c (512 * 7) 512 (CM m c)) ?_ (by iintro H; iexists (CM m c); iexact H)
  unfold R1 CP
  rw [rows_halves]
  exact (pointsTo_union (rows_halves_disjoint _)).2

/-- After the body: the landing buffer, whole. -/
theorem out_c (c : Dev nD) : iprop(own0 (F := F) c ∗ R1 m c 1 ∗ R1 m c 2 ∗ R1 m c 3 ∗ R1 m c 4 ∗ R1 m c 5 ∗ R1 m c 6 ∗ R1 m c 7 ∗ R1 m c 8) ⊢ any_ (F := F) c cc0_scratch2 := by
  iintro ⟨H0, HT1, HT2, HT3, HT4, HT5, HT6, HT7, HT8⟩
  iapply (c_join m c)
  iapply (Entails.of_eq (fin8 fun b => iprop(∃ f, CP (F := F) c (512 * b.val) 512 f)).symm)
  isplitl [H0]; · unfold own0; iexact H0
  isplitl [HT1]; · iapply (R1_slot m c 1 (by decide)) $$ HT1
  isplitl [HT2]; · iapply (R1_slot m c 2 (by decide)) $$ HT2
  isplitl [HT3]; · iapply (R1_slot m c 3 (by decide)) $$ HT3
  isplitl [HT4]; · iapply (R1_slot m c 4 (by decide)) $$ HT4
  isplitl [HT5]; · iapply (R1_slot m c 5 (by decide)) $$ HT5
  isplitl [HT6]; · iapply (R1_slot m c 6 (by decide)) $$ HT6
  iapply (R1_slot_last m c)
  isplitl [HT7]; · iexact HT7
  iexact HT8

/-! ## All together -/

/-- What device `c` starts from beside the buffers: its copies' semaphores at zero, the duties it pays, the credits and
    the positions of its waits. -/
def mine (c : Dev nD) : sProp 𝕄 :=
  iprop((bigSep Finset.univ fun r : Fin 8 => semVal ((c : Thread nD τ), .dma (xS r)) 0) ∗ (bigSep Finset.univ fun k : Fin 2 => semVal ((c : Thread nD τ), .dma (wS k)) 0)
    ∗ sigToks (F := F) c ∗ barIn (F := F) c ∗ (bigSep Finset.univ fun k : Fin 8 => sendTok (F := F) c k.succ)
    ∗ (bigSep Finset.univ fun k : Fin 8 => R0 (F := F) c k.succ) ∗ (bigSep Finset.univ fun k : Fin 8 => P0 (F := F) c k.succ))

/-- The device's buffers: the two arguments at their contents, the working buffers at any. -/
def bufs (c : Dev nD) : sProp 𝕄 :=
  iprop((any_ (F := F) c cc0_scratch0 ∗ any_ (F := F) c cc0_scratch1 ∗ any_ (F := F) c cc0_scratch2 ∗ any_ (F := F) c cc0_scratch6)
    ∗ at_ c main_arg0 (XV m c) ∗ at_ c main_arg1 (WV m c))

/-- The semaphores at zero again. -/
def backs (c : Dev nD) : sProp 𝕄 :=
  iprop(semVal (barCell c) 0 ∗ (bigSep Finset.univ fun k : Fin 8 => semVal (sendCell c k.succ) 0) ∗ (bigSep Finset.univ fun k : Fin 8 => semVal (recvCell c k.succ) 0)
    ∗ (bigSep Finset.univ fun r : Fin 8 => semVal ((c : Thread nD τ), .dma (xS r)) 0) ∗ (bigSep Finset.univ fun k : Fin 2 => semVal ((c : Thread nD τ), .dma (wS k)) 0))

/-- What the body does not touch: the staged block the device would send itself, and the slot for it. -/
def spare (c : Dev nD) : sProp 𝕄 := iprop(S0 (F := F) c 0 ∗ own0 (F := F) c)

/-- The device's buffers and tokens, as the body takes them. -/
theorem body_in (c : Dev nD) : iprop(bufs m c ∗ mine (F := F) c ∗ ∃ f, OP (F := F) c f) ⊢ iprop(bodyIn m c ∗ spare (F := F) c) := by
  unfold bufs mine bodyIn spare
  iintro ⟨⟨⟨H0, H1, H2, H6⟩, HA, HW⟩, ⟨Hx, Hw, Hs, Hb, Hk, Hr, Hp⟩, HO⟩
  ihave HX := (in_x m c) $$ [H0 HA Hx]
  · isplitl [H0]; · iexact H0
    isplitl [HA] <;> iassumption
  ihave HS := (in_s (F := F) c) $$ H1
  icases HS with ⟨HS0, HS⟩
  ihave HC := (in_c (F := F) c) $$ [H2 Hs]
  · isplitl [H2] <;> iassumption
  icases HC with ⟨HC0, HC⟩
  ihave HP := (in_wp (F := F) c) $$ [H6 Hw]
  · isplitl [H6] <;> iassumption
  isplitr [HS0 HC0]
  · isplitl [HX]; · iexact HX
    isplitl [HW]; · iapply (Entails.of_eq (in_w m c)) $$ HW
    isplitl [HP]; · iexact HP
    isplitl [HS]; · iexact HS
    isplitl [HC]; · iexact HC
    isplitl [Hb]; · iexact Hb
    isplitl [Hk]; · iapply (Entails.of_eq (fin8 fun k => sendTok (F := F) c k.succ)) $$ Hk
    isplitl [Hr]; · iapply (Entails.of_eq (fin8 fun k => R0 (F := F) c k.succ)) $$ Hr
    isplitl [Hp]; · iapply (Entails.of_eq (fin8 fun k => P0 (F := F) c k.succ)) $$ Hp
    iexact HO
  · isplitl [HS0] <;> iassumption

/-- What the body leaves, as whole buffers. -/
theorem body_out (c : Dev nD) : iprop(bodyOut m c ∗ spare (F := F) c) ⊢ iprop(bufs m c ∗ backs (F := F) c ∗ OP c (FIN m c)) := by
  unfold bufs backs bodyOut spare
  iintro ⟨⟨HX, HA, HW, HR, HRZ, HB, HZ, HO⟩, HS0, HC0⟩
  ihave HX := (out_x m c) $$ HX
  icases HX with ⟨H0, Hx, Hxs⟩
  ihave HW := (out_wp m c) $$ HW
  icases HW with ⟨H6, Hws⟩
  ihave HS := (out_s m c) $$ [HS0 HZ]
  · isplitl [HS0] <;> iassumption
  icases HS with ⟨H1, Hss⟩
  ihave H2 := (out_c m c) $$ [HC0 HR]
  · isplitl [HC0] <;> iassumption
  isplitl [H0 H1 H2 H6 Hx HA]
  · isplitl [H0 H1 H2 H6]
    · isplitl [H0]; · iexact H0
      isplitl [H1]; · iexact H1
      isplitl [H2] <;> iassumption
    isplitl [Hx]; · iexact Hx
    iapply (Entails.of_eq (in_w m c).symm) $$ HA
  isplitr [HO]
  · isplitl [HB]; · iexact HB
    isplitl [Hss]; · iexact Hss
    isplitl [HRZ]; · iapply (Entails.of_eq (fin8 fun k => RZ (F := F) c k.succ).symm); iexact HRZ
    isplitl [Hxs] <;> iassumption
  iexact HO

end Cert.KP
-- ==== Proof.Ghost.lean ====
/-
  What the launch hands out beside the buffers: the cells' invariants, each device's positions, the duties dealt to the
  devices that pay them, and the credits.
-/
module

public import proofs.«01_k».proof.Proof.Split

@[expose] public section

set_option maxRecDepth 16384

noncomputable section

namespace Cert.KP

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-- A thing follows from itself. -/
theorem same (P : sProp 𝕄) : P ⊢ P := by iintro H; iexact H

/-- Families over the devices, two of four parts replaced. -/
theorem replace_parts (I C P T I' Q : Dev nD → sProp 𝕄) (hI : bigSep Finset.univ I ⊢ bigSep Finset.univ I') (hT : bigSep Finset.univ T ⊢ bigSep Finset.univ Q) :
    (bigSep Finset.univ fun c => iprop(I c ∗ C c ∗ P c ∗ T c)) ⊢ bigSep Finset.univ fun c => iprop(I' c ∗ C c ∗ P c ∗ Q c) := by
  rw [bigSep_sep', bigSep_sep', bigSep_sep', bigSep_sep', bigSep_sep', bigSep_sep']
  exact Idealize.SL.BI.sep_mono hI (Idealize.SL.BI.sep_mono (same _) (Idealize.SL.BI.sep_mono (same _) hT))

/-! ## The kernel's own semaphores -/

/-- The kernel's own semaphores: leaving, arrival, copies of `x`, copies of `w`. -/
def osem : Fin 9 ⊕ Fin 9 ⊕ Fin 8 ⊕ Fin 2 → SemLoc sig
  | .inl k => .dma (sendS k)
  | .inr (.inl k) => .dma (recvS k)
  | .inr (.inr (.inl k)) => .dma (xS k)
  | .inr (.inr (.inr k)) => .dma (wS k)

/-- The kernel's own semaphores are as listed. -/
theorem own_facts : Pipeline.OwnSemFacts cfg0.spec osem := by decide

/-- The two semaphores of message 0, which nothing uses. -/
def idle (c : Dev nD) : sProp 𝕄 := iprop(semVal (sendCell c 0) 0 ∗ semVal (recvCell c 0) 0)
/-- The semaphores of the device's own copies. -/
def copies (c : Dev nD) : sProp 𝕄 :=
  iprop((bigSep Finset.univ fun r : Fin 8 => semVal ((c : Thread nD τ), .dma (xS r)) 0) ∗ (bigSep Finset.univ fun k : Fin 2 => semVal ((c : Thread nD τ), .dma (wS k)) 0))

/-- The kernel's own semaphores, one by one. -/
theorem own_sems (c : Dev nD) :
    (Pipeline.ownSems0 (Ix := Unit) (Name := ℕ) (U := UU) (Lvl := ℕ) (Val := Elt F) (τ := τ) osem c : sProp 𝕄)
      = iprop((semVal (sendCell c 0) 0 ∗ bigSep Finset.univ fun k : Fin 8 => semVal (sendCell c k.succ) 0)
          ∗ (semVal (recvCell c 0) 0 ∗ bigSep Finset.univ fun k : Fin 8 => semVal (recvCell c k.succ) 0) ∗ copies (F := F) c) := by
  rw [← fin9 (fun k => (semVal (sendCell c k) 0 : sProp 𝕄)), ← fin9 (fun k => (semVal (recvCell c k) 0 : sProp 𝕄))]
  unfold Pipeline.ownSems0 copies
  rw [bigSep_univ_sum, bigSep_univ_sum, bigSep_univ_sum]
  rfl

/-- The one semaphore beside them is the barrier's. -/
theorem unscoped_sems (c : Dev nD) : (unscopedSems0 c : sProp 𝕄) = semVal (barCell c) 0 := by
  unfold unscopedSems0; rw [bigSep_eq_bigSepL_of_eq [SemLoc.reg barS] (by decide) (by decide)]; rfl

/-- The semaphores at the launch, sorted for the protocol. -/
theorem sems_in (c : Dev nD) :
    iprop(Pipeline.ownSems0 (Ix := Unit) (Name := ℕ) (U := UU) (Lvl := ℕ) (Val := Elt F) (τ := τ) osem c ∗ unscopedSems0 c)
      ⊢ iprop((bigSep Finset.univ fun i : Fin 17 => semVal (kcell (c, i)) 0) ∗ idle (F := F) c ∗ copies (F := F) c) := by
  rw [own_sems, unscoped_sems, fin17 fun sm => (semVal ((c : Thread nD τ), sm) 0 : sProp 𝕄)]
  unfold idle
  iintro ⟨⟨⟨H0, HS⟩, ⟨H1, HR⟩, HC⟩, HB⟩
  isplitl [HB HS HR]
  · isplitl [HB]; · iexact HB
    isplitl [HS] <;> iassumption
  isplitl [H0 H1]
  · isplitl [H0] <;> iassumption
  iexact HC

/-- The semaphores at the end, as at the launch. -/
theorem sems_out (c : Dev nD) : iprop(backs (F := F) c ∗ idle (F := F) c)
    ⊢ iprop(unscopedSems0 c ∗ Pipeline.ownSems0 (Ix := Unit) (Name := ℕ) (U := UU) (Lvl := ℕ) (Val := Elt F) (τ := τ) osem c) := by
  rw [own_sems, unscoped_sems]
  unfold idle backs copies
  iintro ⟨⟨HB, HS, HR, HC⟩, H0, H1⟩
  isplitl [HB]; · iexact HB
  isplitl [H0 HS]
  · isplitl [H0] <;> iassumption
  isplitl [H1 HR]
  · isplitl [H1] <;> iassumption
  iexact HC

/-! ## Cells and duties -/

/-- The cells of a device are distinct. -/
theorem csem_inj : Function.Injective csem := by decide
/-- The cells of all devices are distinct. -/
theorem kcell_inj : Function.Injective (kcell : Dev nD × Fin 17 → GSem nD τ sig) := by
  rintro ⟨c, k⟩ ⟨c', k'⟩ h
  have h1 : c = c' := congrArg (fun g : GSem nD τ sig => g.1.1) h
  have h2 : k = k' := csem_inj (congrArg Prod.snd h)
  rw [h1, h2]
/-- All cells of the protocol. -/
def kcells : Finset (GSem nD τ sig) := Finset.univ.map ⟨kcell, kcell_inj⟩

/-- The duties of a device's cells: at place `k + 1` the barrier's duty `k` and the one duty of message `k + 1`'s two
    cells. -/
def key (q : Fin 3 × Fin 9) : SemLoc sig × ℕ × Fin 8 :=
  match q.1 with
  | 0 => (.reg barS, 1 - q.2.val, Fin.ofNat 8 (q.2.val - 1))
  | 1 => (.dma (sendS q.2), 0, 0)
  | 2 => (.dma (recvS q.2), 0, 0)
/-- The duties of a device are distinct. -/
theorem key_inj : Function.Injective key := by decide +kernel
/-- A duty: its cell, its round and its number. -/
def duty (p : Dev nD × Fin 3 × Fin 9) : GSem nD τ sig × ℕ × Fin 8 := (((p.1 : Thread nD τ), (key p.2).1), (key p.2).2)
/-- The duties of all devices are distinct. -/
theorem duty_inj : Function.Injective duty := by
  rintro ⟨c, q⟩ ⟨c', q'⟩ h
  have h1 : c = c' := congrArg (fun x : GSem nD τ sig × ℕ × Fin 8 => x.1.1.1) h
  have h2 : q = q' := key_inj (congrArg (fun x : GSem nD τ sig × ℕ × Fin 8 => (x.1.2, x.2)) h)
  rw [h1, h2]
/-- All duties of the protocol. -/
def dutyToks : Finset (GSem nD τ sig × ℕ × Fin 8) := Finset.univ.map ⟨duty, duty_inj⟩

/-- The token of a duty. -/
def tok (p : Dev nD × Fin 3 × Fin 9) : sProp 𝕄 := dutyTok ER (duty p).1 (duty p).2.1 (duty p).2.2

/-- What the launch deals device `c`: its cells' states, its positions, and the duties of its cells. -/
def G (c : Dev nD) : sProp 𝕄 :=
  iprop((bigSep Finset.univ fun i : Fin 17 => roundState ER (sch m) (kcell (c, i)) 0)
    ∗ (bigSep Finset.univ fun i : Fin 17 => reached ER (kcell (c, i)) 0)
    ∗ (bigSep Finset.univ fun i : Fin 17 => atPos ER (kcell (c, i)) 0 ∅ 0)
    ∗ bigSep Finset.univ fun q : Fin 3 × Fin 9 => tok (F := F) (c, q))

/-- The initial state of the rounds deals out each cell's part. -/
theorem deal : BI.own (ER (initOf kcells dutyToks)) ⊢ (|==> bigSep Finset.univ (G m) : sProp 𝕄) := by
  have hC (Φ : GSem nD τ sig → sProp 𝕄) : bigSep kcells Φ = bigSep Finset.univ fun c : Dev nD => bigSep Finset.univ fun i : Fin 17 => Φ (kcell (c, i)) := by
    unfold kcells; rw [bigSep_map, bigSep_univ_prod]; rfl
  have hT : bigSep dutyToks (fun x => (dutyTok ER x.1 x.2.1 x.2.2 : sProp 𝕄)) = bigSep Finset.univ fun c : Dev nD => bigSep Finset.univ fun q : Fin 3 × Fin 9 => tok (F := F) (c, q) := by
    unfold dutyToks; rw [bigSep_map, bigSep_univ_prod]; rfl
  refine (Rounds.fund ER (sch m) kcells dutyToks).trans (BI.bupd_mono ?_)
  rw [hC, hC, hC, hT]
  unfold G
  simp only [bigSep_sep']
  exact (same _)

/-! ## The duties dealt around -/

/-- The devices by their distance from `j`. -/
def gapE (j : Dev nD) : Dev nD ≃ Fin 8 := (upE j).symm
/-- The receivers of copy `k`, as a permutation of the devices. -/
def hopE (k : Fin 9) : Dev nD ≃ Dev nD := ⟨fun c => up c (hop k), fun c => dn c (hop k), fun c => dn_up_hop c k, fun c => up_dn_hop c k⟩

/-- The duties of a barrier cell, as listed. -/
theorem key_bar : ∀ d : Fin 8, key (0, d.succ) = (.reg barS, 0, d) := by decide

/-- A device's cells' duties by kind. -/
theorem toks_split (c : Dev nD) : (bigSep Finset.univ fun q : Fin 3 × Fin 9 => tok (F := F) (c, q))
    ⊢ iprop((bigSep Finset.univ fun d : Fin 8 => (dutyTok ER (barCell c) 0 d : sProp 𝕄))
        ∗ (bigSep Finset.univ fun k : Fin 8 => (dutyTok ER (sendCell c k.succ) 0 0 : sProp 𝕄))
        ∗ (bigSep Finset.univ fun k : Fin 8 => (dutyTok ER (recvCell c k.succ) 0 0 : sProp 𝕄))) := by
  rw [bigSep_univ_prod, bigSep_univ_eq_bigSepL [0, 1, 2] (by decide) (by decide)]
  have h0 : (bigSep Finset.univ fun k : Fin 9 => tok (F := F) (c, 0, k)) ⊢ bigSep Finset.univ fun d : Fin 8 => (dutyTok ER (barCell c) 0 d : sProp 𝕄) := by
    rw [fin9, bigSep_congr (s := Finset.univ) fun (d : Fin 8) _ => show tok (F := F) (c, 0, d.succ) = dutyTok ER (barCell c) 0 d by unfold tok duty; rw [key_bar]]
    iintro ⟨-, H⟩; iexact H
  have h1 : (bigSep Finset.univ fun k : Fin 9 => tok (F := F) (c, 1, k)) ⊢ bigSep Finset.univ fun k : Fin 8 => (dutyTok ER (sendCell c k.succ) 0 0 : sProp 𝕄) := by
    rw [fin9]; iintro ⟨-, H⟩; iexact H
  have h2 : (bigSep Finset.univ fun k : Fin 9 => tok (F := F) (c, 2, k)) ⊢ bigSep Finset.univ fun k : Fin 8 => (dutyTok ER (recvCell c k.succ) 0 0 : sProp 𝕄) := by
    rw [fin9]; iintro ⟨-, H⟩; iexact H
  refine Idealize.SL.BI.sep_mono h0 ?_
  show iprop((bigSep Finset.univ fun k : Fin 9 => tok (F := F) (c, 1, k)) ∗ bigSep Finset.univ fun k : Fin 9 => tok (F := F) (c, 2, k)) ⊢ _
  exact Idealize.SL.BI.sep_mono h1 h2

/-- Each device ends up with the duties it pays. -/
theorem around :
    (bigSep Finset.univ fun c : Dev nD => bigSep Finset.univ fun q : Fin 3 × Fin 9 => tok (F := F) (c, q))
      ⊢ bigSep Finset.univ fun c : Dev nD => iprop(sigToks (F := F) c ∗ bigSep Finset.univ fun k : Fin 8 => sendTok (F := F) c k.succ) := by
  refine (bigSep_mono fun c _ => toks_split c).trans ?_
  have hB : (bigSep Finset.univ fun j : Dev nD => bigSep Finset.univ fun d : Fin 8 => (dutyTok ER (barCell j) 0 d : sProp 𝕄))
      ⊢ bigSep Finset.univ fun c : Dev nD => sigToks (F := F) c := by
    rw [bigSep_congr (s := Finset.univ) fun (j : Dev nD) _ => bigSep_univ_equiv (gapE j) fun d : Fin 8 => (dutyTok ER (barCell j) 0 d : sProp 𝕄),
      BI.bigSep_univ_comm]
    refine bigSep_mono fun c _ => bigSep_mono fun j _ => ?_
    by_cases h : j = c
    · rw [if_pos h]
      show (dutyTok ER (barCell j) 0 (gap c j) : sProp 𝕄) ⊢ iprop(emp)
      iintro -; iempintro
    · rw [if_neg h]; exact (same _)
  have hR : (bigSep Finset.univ fun c : Dev nD => bigSep Finset.univ fun k : Fin 8 => (dutyTok ER (recvCell c k.succ) 0 0 : sProp 𝕄))
      = bigSep Finset.univ fun c : Dev nD => bigSep Finset.univ fun k : Fin 8 => (dutyTok ER (recvCell (up c (hop k.succ)) k.succ) 0 0 : sProp 𝕄) := by
    rw [BI.bigSep_univ_comm, BI.bigSep_univ_comm (fun (c : Dev nD) (k : Fin 8) => (dutyTok ER (recvCell (up c (hop k.succ)) k.succ) 0 0 : sProp 𝕄))]
    exact bigSep_congr fun k _ => bigSep_univ_equiv (hopE k.succ) fun c : Dev nD => (dutyTok ER (recvCell c k.succ) 0 0 : sProp 𝕄)
  have hS : (bigSep Finset.univ fun c : Dev nD => bigSep Finset.univ fun k : Fin 8 => sendTok (F := F) c k.succ)
      = iprop((bigSep Finset.univ fun c : Dev nD => bigSep Finset.univ fun k : Fin 8 => (dutyTok ER (sendCell c k.succ) 0 0 : sProp 𝕄))
        ∗ bigSep Finset.univ fun c : Dev nD => bigSep Finset.univ fun k : Fin 8 => (dutyTok ER (recvCell (up c (hop k.succ)) k.succ) 0 0 : sProp 𝕄)) := by
    unfold sendTok; simp only [bigSep_sep']
  rw [bigSep_sep', bigSep_sep', bigSep_sep', hS, hR]
  exact Idealize.SL.BI.sep_mono hB (same _)

/-! ## The global step -/

/-- What device `c` starts with, the credits aside. -/
def G' (c : Dev nD) : sProp 𝕄 :=
  iprop(INV m ∗ (idle (F := F) c ∗ copies (F := F) c) ∗ (bigSep Finset.univ fun i : Fin 17 => atPos ER (kcell (c, i)) 0 ∅ 0)
    ∗ sigToks (F := F) c ∗ bigSep Finset.univ fun k : Fin 8 => sendTok (F := F) c k.succ)

/-- Each device's cells are set up from its semaphores and its part of the rounds. -/
theorem alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun i : Fin 17 => cI m (kcell (c, i))) ∗ (idle (F := F) c ∗ copies (F := F) c)
          ∗ (bigSep Finset.univ fun i : Fin 17 => atPos ER (kcell (c, i)) 0 ∅ 0) ∗ bigSep Finset.univ fun q : Fin 3 × Fin 9 => tok (F := F) (c, q)) := by
  have hI : iprop((bigSep Finset.univ fun i : Fin 17 => semVal (kcell (c, i)) 0) ∗ bigSep Finset.univ fun i : Fin 17 => roundState ER (sch m) (kcell (c, i)) 0)
      ⊢ (|={Set.univ}=> bigSep Finset.univ fun i : Fin 17 => iprop(∃ κ : ℕ, cellInv ER (sch m) κ (kcell (c, i))) : sProp 𝕄) := by
    rw [← bigSep_sep']
    exact (bigSep_mono fun i _ => (Rounds.body_intro ER (sch m) (kcell (c, i))).trans inv_alloc).trans (bigSep_fupd _ _)
  unfold G cI
  rw [bigSep_sep']
  iintro ⟨HO, HU, HS, HR, HP, HT⟩
  ihave HV := (sems_in (F := F) c) $$ [HO HU]
  · isplitl [HO] <;> iassumption
  icases HV with ⟨HV, HC⟩
  imod hI $$ [HV HS] with HI
  · isplitl [HV] <;> iassumption
  imodintro
  isplitl [HI HR]
  · isplitl [HI] <;> iassumption
  isplitl [HC]; · iexact HC
  isplitl [HP] <;> iassumption

/-- The tokens go from the cells' owners to the payers. -/
theorem spread :
    (bigSep Finset.univ fun c : Dev nD => iprop((bigSep Finset.univ fun i : Fin 17 => cI m (kcell (c, i))) ∗ (idle (F := F) c ∗ copies (F := F) c)
          ∗ (bigSep Finset.univ fun i : Fin 17 => atPos ER (kcell (c, i)) 0 ∅ 0) ∗ bigSep Finset.univ fun q : Fin 3 × Fin 9 => tok (F := F) (c, q)) : sProp 𝕄)
      ⊢ bigSep Finset.univ (G' m) := by
  have hI : (bigSep Finset.univ fun c : Dev nD => bigSep Finset.univ fun i : Fin 17 => cI m (kcell (c, i))) ⊢ bigSep Finset.univ fun _ : Dev nD => INV m := by
    rw [← bigSep_univ_prod fun p : Dev nD × Fin 17 => cI m (kcell p)]
    exact bigSep_of_persistent (Finset.univ : Finset (Dev nD)) (INV m)
  exact replace_parts _ _ _ _ _ _ hI (around (F := F))

/-- All devices together: the cells are set up and the tokens dealt out. -/
theorem global : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => alloc m c).trans (bigSep_fupd _ _)).trans (BI.fupd_mono (spread m))

/-! ## The credits -/

/-- A receive cell is no barrier cell. -/
theorem recv_ne_bar (c d : Dev nD) (k : Fin 9) : recvCell c k ≠ barCell d := fun h => by cases congrArg Prod.snd h

/-- Every other device owes a barrier cell one unit. -/
theorem owes_bar (d c : Dev nD) : sigOwes d 0 (barCell c) () = if c ≠ d then 1 else 0 := by
  unfold sigOwes
  have h0 : recvOwes d 1 (barCell c) () = 0 := by
    by_contra h
    obtain ⟨k, -, hk⟩ := recvOwes_pos (Nat.pos_of_ne_zero h)
    exact recv_ne_bar _ _ _ hk.symm
  rw [Pi.add_apply, Finsupp.add_apply, h0, zero_add, Finset.sum_apply, Finsupp.finset_sum_apply, Finset.sum_eq_single c]
  · by_cases h : c ≠ d
    · rw [if_pos ⟨Nat.zero_le _, h⟩, if_pos h, tallyAt_apply, if_pos ⟨rfl, rfl⟩]
    · rw [if_neg fun h' => h h'.2, if_neg h]; rfl
  · intro j _ hj
    by_cases h : 0 ≤ j.val ∧ j ≠ d
    · rw [if_pos h, tallyAt_apply, if_neg fun h' => hj (congrArg (fun g : GSem nD τ sig => g.1.1) h'.1).symm]
    · rw [if_neg h]; rfl
  · intro h; exact absurd (Finset.mem_univ _) h

/-- The receive semaphores are distinct. -/
theorem recvS_inj : Function.Injective recvS := by decide

/-- One device owes a receive cell its copy's credit. -/
theorem owes_recv (d c : Dev nD) (k : Fin 9) (hk : 1 ≤ k.val) : sigOwes d 0 (recvCell c k) () = if d = dn c (hop k) then msgN k else 0 := by
  unfold sigOwes
  have h0 : (∑ j : Dev nD, if 0 ≤ j.val ∧ j ≠ d then tallyAt (barCell j) () 1 else 0 : CellTallies nD τ sig Unit) (recvCell c k) () = 0 := by
    rw [Finset.sum_apply, Finsupp.finset_sum_apply]
    refine Finset.sum_eq_zero fun j _ => ?_
    by_cases h : 0 ≤ j.val ∧ j ≠ d
    · rw [if_pos h, tallyAt_apply, if_neg fun h' => recv_ne_bar _ _ _ h'.1]
    · rw [if_neg h]; rfl
  rw [Pi.add_apply, Finsupp.add_apply, h0, add_zero]
  unfold recvOwes
  rw [Finset.sum_apply, Finsupp.finset_sum_apply, Finset.sum_eq_single k]
  · rw [if_pos hk, tallyAt_apply]
    by_cases h : d = dn c (hop k)
    · rw [if_pos h, h, up_dn_hop, if_pos ⟨rfl, rfl⟩]
    · rw [if_neg h, if_neg fun h' => h (by
        have h1 : c = up d (hop k) := congrArg (fun g : GSem nD τ sig => g.1.1) h'.1
        rw [h1, dn_up_hop])]
  · intro j _ hj
    by_cases h : 1 ≤ j.val
    · rw [if_pos h, tallyAt_apply, if_neg fun h' => hj (recvS_inj (by
        have h1 := congrArg Prod.snd h'.1
        injection h1 with h2
        exact h2.symm))]
    · rw [if_neg h]; rfl
  · intro h; exact absurd (Finset.mem_univ _) h

/-- What is owed to a barrier cell at the launch. -/
theorem launch_bar (c : Dev nD) :
    tallyOn (barCell c) (launchCredit (Pipeline.owing fun d => sigOwes d 0) 0 (barCell c)) = (tallyAt (barCell c) () 7 : CellTallies nD τ sig Unit) := by
  unfold tallyAt; refine congrArg _ (Finsupp.ext fun u => ?_); cases u
  rw [Pipeline.launchCredit_owing, Finsupp.single_eq_same, Finset.sum_congr rfl fun d _ => owes_bar d c]
  revert c; decide

/-- What is owed to a receive cell at the launch. -/
theorem launch_recv (c : Dev nD) (k : Fin 9) (hk : 1 ≤ k.val) :
    tallyOn (recvCell c k) (launchCredit (Pipeline.owing fun d => sigOwes d 0) 0 (recvCell c k)) = (tallyAt (recvCell c k) () (msgN k) : CellTallies nD τ sig Unit) := by
  unfold tallyAt; refine congrArg _ (Finsupp.ext fun u => ?_); cases u
  rw [Pipeline.launchCredit_owing, Finsupp.single_eq_same, Finset.sum_congr rfl fun d _ => owes_recv d c k hk, Finset.sum_ite_eq' Finset.univ (dn c (hop k)) fun _ => msgN k,
    if_pos (Finset.mem_univ _)]

/-- The launch gives each device the credits of its own cells. -/
theorem credits (c : Dev nD) :
    (Pipeline.launchCred (fun d => sigOwes d 0) c : sProp 𝕄)
      ⊢ iprop(cred (tallyAt (barCell c) () 7) ∗ bigSep Finset.univ fun k : Fin 8 => cred (tallyAt (recvCell c k.succ) () (msgN k.succ))) := by
  unfold Pipeline.launchCred
  refine (bigSep_subset (Finset.subset_univ (Finset.univ.map ⟨csem, csem_inj⟩))).trans ?_
  rw [bigSep_map]
  refine (Entails.of_eq (fin17 fun sm => (cred (tallyOn ((c : Thread nD τ), sm) (launchCredit (Pipeline.owing fun d => sigOwes d 0) 0 ((c : Thread nD τ), sm))) : sProp 𝕄))).trans ?_
  rw [launch_bar, bigSep_congr (s := Finset.univ) fun (k : Fin 8) _ => congrArg (fun t => (cred t : sProp 𝕄)) (launch_recv c k.succ (Nat.succ_pos _))]
  iintro ⟨HB, -, HR⟩
  isplitl [HB] <;> iassumption

/-- Everything a device starts from beside the buffers. -/
theorem mine_intro (c : Dev nD) :
    iprop(Pipeline.launchCred (fun d => sigOwes d 0) c ∗ G' m c) ⊢ iprop(INV m ∗ idle (F := F) c ∗ mine (F := F) c) := by
  unfold G' mine copies barIn R0 P0
  rw [bigSep_sep', fin17 fun sm => (atPos ER ((c : Thread nD τ), sm) 0 ∅ 0 : sProp 𝕄)]
  iintro ⟨HC, HI, ⟨Hi, Hx, Hw⟩, ⟨HpB, HpS, HpR⟩, Hs, Hk⟩
  ihave HC := (credits (F := F) c) $$ HC
  icases HC with ⟨HcB, HcR⟩
  isplitl [HI]; · iexact HI
  isplitl [Hi]; · iexact Hi
  isplitl [Hx]; · iexact Hx
  isplitl [Hw]; · iexact Hw
  isplitl [Hs]; · iexact Hs
  isplitl [HcB HpB]
  · isplitl [HcB] <;> iassumption
  isplitl [Hk]; · iexact Hk
  isplitl [HcR HpR]
  · isplitl [HcR] <;> iassumption
  iexact HpS

end Cert.KP
-- ==== Proof.Launch.lean ====
/-
  The launch: the whole run of the kernel on the eight devices, for any float values.
-/
module

public import proofs.«01_k».proof.Proof.Ghost
public import Idealize.ShloMosaic.Lib.Pipeline.CollectiveSegs

@[expose] public section

set_option maxRecDepth 16384

noncomputable section

namespace Cert.KP

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

open Idealize.ShloMosaic.Pipeline (Dat Cfg Window BodyObligation)

variable (m : (ℓ : Loc nD τ sig) → Buf (Elt F) ℓ) (ρ : Dev nD → PrngReg)

/-- The launch state: memory `m`, every counter zero, PRNG registers `ρ`. -/
def start₀ : MemSt nD τ sig (Elt F) := ⟨m, fun _ => 0, ρ⟩

/-- What device `c`'s body starts from, the kernel's scratch buffers aside. -/
def start (c : Dev nD) : sProp 𝕄 :=
  iprop(INV m ∗ levAts L lv ∗ (idle (F := F) c ∗ mine (F := F) c) ∗ at_ c main_arg0 (XV m c) ∗ at_ c main_arg1 (WV m c))

/-- The kernel's scratch buffers at any contents. -/
def scratch (c : Dev nD) : sProp 𝕄 := iprop(any_ (F := F) c cc0_scratch0 ∗ any_ (F := F) c cc0_scratch1 ∗ any_ (F := F) c cc0_scratch2 ∗ any_ (F := F) c cc0_scratch6)

/-- What a device holds before the body. -/
def before (c : Dev nD) : sProp 𝕄 := iprop(start m c ∗ scratch (F := F) c)
/-- What a device holds after the body. -/
def afterwards (c : Dev nD) : sProp 𝕄 := iprop(bufs m c ∗ backs (F := F) c ∗ idle (F := F) c)

/-- The pipeline's data: one grid point, the output's window, the result. -/
def dats (_ : Fin 1) (c : Dev nD) : Dat τ (Elt F) Unit ℕ UU ℕ cfg0 c where
  A w := (start₀ m ρ).mem ((cfg0.win w).arr.view.loc (c : Thread nD τ))
  after w _ := match w with
    | ⟨0, _⟩ => FIN m c
  Φ t := match t with
    | ⟨0, _⟩ => before m c
    | ⟨_ + 1, _⟩ => afterwards m c
  q _ := fullShare
  owed t := match t with
    | ⟨0, _⟩ => sigOwes c 0
    | ⟨_ + 1, _⟩ => 0

/-- A staging buffer whole at contents `X`. -/
abbrev held (c : Dev nD) (X : (cc0_stg0_0 : Ref sig .tc).ty.Contents (Elt F)) : sProp 𝕄 :=
  iprop(∃ f : (cc0_stg0_0 : Ref sig .tc).ty.Contents (Elt F), ⌜f = X⌝ ∗ ((c : Thread nD τ).loc cc0_stg0_0) ↦{fullShare} f)

/-- The body's precondition, with the obligations still owed. -/
def preBody (c : Dev nD) : sProp 𝕄 :=
  iprop(before m c ∗ (dats m ρ 0 c).owesAt () t0_0.castSucc ∗ (∃ d, held c ((dats m ρ 0 c).before (0 : Fin 1) t0_0 d)))
/-- The body's postcondition, with nothing owed. -/
def postBody (c : Dev nD) : sProp 𝕄 :=
  iprop(afterwards m c ∗ (dats m ρ 0 c).owesAt () t0_0.succ ∗ held c (FIN m c))

/-- The body of device `c`, from all it starts with to all it leaves. -/
theorem sound (c : Dev nD) : preBody m ρ c ⊢ wpc c (cc0_body (F := F) xA (Memref.isWhole_whole _) wA (Memref.isWhole_whole _) oM (Memref.isWhole_whole _)
    xM (Memref.isWhole_whole _) sM (Memref.isWhole_whole _) cM (Memref.isWhole_whole _) cc0_scratch3 cc0_scratch4 cc0_scratch5 wM (Memref.isWhole_whole _) cc0_scratch7)
    (fun _ => postBody m ρ c) := by
  unfold preBody before start scratch
  iintro ⟨⟨⟨HI, HL, ⟨Hi, Hm⟩, Ha, Hw⟩, Hs⟩, Ho, ⟨%d, %f, %hf, Hf⟩⟩
  ihave HB := (body_in m c) $$ [Hm Ha Hw Hs Hf]
  · unfold bufs
    isplitl [Hs Ha Hw]
    · isplitl [Hs]; · iexact Hs
      isplitl [Ha] <;> iassumption
    isplitl [Hm]; · iexact Hm
    iexists f; unfold OP; iexact Hf
  icases HB with ⟨HB, Hsp⟩
  unfold Dat.owesAt Pipeline.owesWithin
  icases Ho with ⟨%W, -, Ho⟩
  ihave HW := (body_run m c) $$ [HI HL Ho HB]
  · isplitl [HI]; · iexact HI
    isplitl [HL]; · iexact HL
    isplitl [Ho]; · unfold OW; iexists W; iexact Ho
    iexact HB
  unfold wpc
  iapply (wp_wand_r frame (wpE (defs₀ (F := F)) 𝒱₀ (c : Thread nD τ) none) Set.univ)
  isplitl [HW]; · iexact HW
  iintro %a ⟨HO, HW⟩
  ihave HO := (body_out m c) $$ [HO Hsp]
  · isplitl [HO] <;> iassumption
  icases HO with ⟨Hb, Hk, Hf⟩
  unfold postBody afterwards
  isplitl [Hb Hk Hi]
  · isplitl [Hb]; · iexact Hb
    isplitl [Hk] <;> iassumption
  isplitl [HW]
  · unfold Dat.owesAt Pipeline.owesWithin
    unfold OW
    rw [recvOwes_nine]
    icases HW with ⟨%W', HW⟩
    iexists W'
    isplitr; · (ipureintro; exact fun _ _ => Or.inl trivial)
    iexact HW
  iexists (FIN m c)
  isplitr; · (ipureintro; rfl)
  unfold OP; iexact Hf

set_option maxRecDepth 8000 in
/-- The body meets the pipeline's obligation. -/
theorem obligation (c : Dev nD) : BodyObligation (dats (F := F) m ρ 0 c) (defs₀ (F := F)) 𝒱₀ () Set.univ := fun t => by
  rw [fin_N0 t]
  rw [bigSep_W0, bigSep_W0]
  simp only [owns_whole_eq]
  exact sound m ρ c

/-! ## The theorem's side conditions -/

/-- The initial state of the algebra. -/
def u₀ : UU := (initOf (Pipeline.cells cfgs cellOf_inj) (Pipeline.launchToks cfgs cellOf_inj), (initOf kcells dutyToks, 1))

/-- The initial rounds, dealt out. -/
theorem dealt : BI.own ((embR : Emb (UB × Counters) 𝕄) (initOf kcells dutyToks, 1)) ⊢ (|==> bigSep Finset.univ (G m) : sProp 𝕄) := deal m

/-- What a device is left with that is read off at the end. -/
def kept (c : Dev nD) : sProp 𝕄 := iprop(unscopedSems0 c ∗ at_ c main_arg0 (XV m c) ∗ at_ c main_arg1 (WV m c))

/-- A device's start, from what the launch gives. -/
theorem start_intro (c : Dev nD) :
    iprop(Pipeline.unscopedRestP Pipeline.Prefetch.none cfg0.spec c (fun b => m ((c : Thread nD τ).loc b)) ∗ levAts L lv
        ∗ Pipeline.launchCred (fun d => sigOwes d 0) c ∗ prngReg c (ρ c) ∗ G' m c)
      ⊢ |={Set.univ}=> iprop(start m c ∗ emp) := by
  rw [Pipeline.unscopedRestP_none, unscopedRest0_eq]
  iintro ⟨⟨Ha, Hw⟩, HL, Hc, -, HG⟩
  ihave HM := (mine_intro m c) $$ [Hc HG]
  · isplitl [Hc] <;> iassumption
  icases HM with ⟨HI, Hi, Hm⟩
  imodintro
  unfold start
  isplitl
  · isplitl [HI]; · iexact HI
    isplitl [HL]; · iexact HL
    isplitl [Hi Hm]
    · isplitl [Hi] <;> iassumption
    isplitl [Ha]; · iexact Ha
    iexact Hw
  · iempintro

/-- The start and the scratch buffers are what the body takes. -/
theorem before_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = before m c from rfl, scopedRest0_eq]
  unfold before scratch
  iintro ⟨Hs, -, Hr⟩
  isplitl [Hs] <;> iassumption

/-- What the body leaves is what the launch takes back. -/
theorem afterwards_exit (c : Dev nD) :
    (dats m ρ 0 c).Φ (Fin.last cfg0.N) ⊢ iprop(kept m c ∗ Pipeline.ownSems0 osem c ∗ Pipeline.scopedRest cfg0.spec c) := by
  rw [show (dats m ρ 0 c).Φ (Fin.last cfg0.N) = afterwards m c from rfl, scopedRest0_eq]
  unfold afterwards bufs kept
  iintro ⟨⟨Hs, Ha, Hw⟩, Hb, Hi⟩
  ihave HS := (sems_out (F := F) c) $$ [Hb Hi]
  · isplitl [Hb] <;> iassumption
  icases HS with ⟨HU, HO⟩
  isplitl [HU Ha Hw]
  · isplitl [HU]; · iexact HU
    isplitl [Ha] <;> iassumption
  isplitl [HO]; · iexact HO
  iexact Hs

/-- The pipeline's own waits are allowed. -/
theorem waits (c : Dev nD) : (levAts L lv : sProp 𝕄) ⊢ Pipeline.cellsWaits cfgs (dats m ρ) () 0 c :=
  Pipeline.cellsWaits_intro cfgs (dats m ρ) () 0 c fun w s t => by
    rcases t with ⟨_ | _, ht⟩
    · exact mayWait_sigOwes c _ (by fin_cases w <;> fin_cases s <;> decide)
    · rw [show (dats m ρ 0 c).owed ⟨_ + 1, ht⟩ = 0 from rfl, MayWait_zero]
      iintro -; iempintro

/-- The output's window is held whole. -/
theorem share_eq (c : Dev nD) (w : Fin cfg0.W) : (dats m ρ 0 c).share w = fullShare := by
  unfold Dat.share; split <;> rfl

/-- The two arguments read off a final state. -/
theorem args_read (c : Dev nD) (s' : Phys nD τ sig (Elt F)) :
    iprop((at_ c main_arg0 (XV m c) ∗ at_ c main_arg1 (WV m c)) ∗ SI s')
      ⊢ (iprop(⌜s'.mem.mem ((c : Thread nD τ).loc main_arg0) = XV m c ∧ s'.mem.mem ((c : Thread nD τ).loc main_arg1) = WV m c⌝ ∗ SI s') : sProp 𝕄) := by
  have h := pointsTo_read_all (Ix := Unit) (Name := ℕ) (U := UU) (Lvl := ℕ) ({main_arg0, main_arg1} : Finset (Ref sig .tc)) (fun b => (c : Thread nD τ).loc b) (fun b => m ((c : Thread nD τ).loc b)) s'
  rw [bigSep_eq_bigSepL_of_eq [main_arg0, main_arg1] (by decide) (by decide)] at h
  refine BIBase.Entails.trans h ?_
  iintro ⟨%H, HS⟩
  isplitr
  · ipureintro; exact ⟨H main_arg0 (by decide), H main_arg1 (by decide)⟩
  iexact HS

/-! ## The run -/

/-- The result array of device `c` after the run. -/
def result (c : Dev nD) (w : Fin cfg0.W) : Buf (Elt F) ((cfg0.win w).arr.view.loc (c : Thread nD τ)) := (dats m ρ 0 c).arrAt w cfg0.N

set_option maxRecDepth 8000 in
/-- The run of all devices, with the arrays as the pipeline leaves them. -/
theorem run_arrays : θ_run defs (onTc (τ := τ) (main (F := F))) (start₀ m ρ) (fun r =>
    (∀ c : Dev nD, (∀ w : Fin cfg0.W, r.2.mem ((cfg0.win w).arr.view.loc (c : Thread nD τ)) = result m ρ c w)
      ∧ r.2.mem ((c : Thread nD τ).loc main_arg0) = XV m c ∧ r.2.mem ((c : Thread nD τ).loc main_arg1) = WV m c) ∧ r.2.sem = fun _ => 0) :=
  Pipeline.θ_run_region_owing_glob_pf (fun p => (cfgs p).toPCfg) (fun p => (cfgs p).toPCfg_adm) (dats m ρ) () cellOf_inj (0 : Fin 1)
    winFacts0.to₀ own_facts (Pipeline.PreFacts.none _) EP defs₀ 𝒱₀ m ρ main
    (hmain := fun _ => rfl)
    (hbody := obligation m ρ) (hne := fun w => by fin_cases w <;> exact Nat.succ_pos _) (harr := arr_whole0) (hstage := stage_whole0) (hshare := share_eq m ρ)
    (hdistinct := winFacts0.arr_inj)
    (O₀ := fun c => sigOwes c 0) (howed₀ := fun _ => rfl) (howedN := fun _ => rfl)
    (L := L) (lv := lv) (hL := L_of_ne) (hwaits := waits m ρ)
    (G := G m) (G' := G' m) (u₀ := u₀)
    (hu₀ := by
      unfold u₀
      iintro Hu
      ihave H := (ownU_pair _ _) $$ Hu
      icases H with ⟨HP, HX⟩
      imod (dealt m) $$ HX with HG
      imodintro
      isplitl [HP] <;> iassumption)
    (hglob := global m)
    (hA := fun _ _ => rfl) (hpf := fun _ k => k.elim0)
    (X := start m) (Y := kept m) (Z := fun _ => iprop(emp))
    (hX := start_intro m ρ) (hin := before_intro m ρ) (hout := afterwards_exit m ρ)
    (QY := fun c s => (s.mem ((c : Thread nD τ).loc main_arg0) = XV m c ∧ s.mem ((c : Thread nD τ).loc main_arg1) = WV m c)
      ∧ ∀ sm : SemLoc sig, sm.isScoped .tc = false → s.sem ((c.tc : Thread nD τ), sm) = 0)
    (hY := fun c s' => by
      unfold kept
      iintro ⟨⟨Hu, Ha⟩, -, HSI⟩
      ihave HR := (args_read m c s') $$ [Ha HSI]
      · isplitl [Ha] <;> iassumption
      icases HR with ⟨%h, HSI⟩
      imod (Pipeline.unscopedSems0_read (X := unscopedSems0 c) (c := c) fupd_intro s') $$ [Hu HSI] with HR
      · isplitl [Hu] <;> iassumption
      icases HR with ⟨%h', HSI⟩
      imodintro
      isplitr
      · ipureintro; exact ⟨h, h'⟩
      iexact HSI)
    (hQ := fun _ h hs => ⟨fun c => ⟨(h c).1, (h c).2.2.1⟩, sem_eq_zero hs fun c => (h c).2.2.2⟩)

/-- The result array holds what the body left. -/
theorem result_eq (c : Dev nD) : result m ρ c (0 : Fin 1) = FIN m c := by
  unfold result
  rw [show cfg0.N = (t0_0 : Fin cfg0.N).val + 1 from rfl, (dats m ρ 0 c).arrAt_succ (0 : Fin 1) t0_0, if_pos (show (cfg0.win (0 : Fin 1)).flush t0_0 = true by decide)]
  have hz : (fun a => (win0_0.index t0_0) a * main_v1.ty.shape.size a) = fun _ => 0 := funext fun a => by fin_cases a <;> decide
  exact Memref.write_access_unit_zero_univ (Elt F) main_v1 hz (fun a => by fin_cases a <;> decide) _ _

/-- On eight devices, for any float values, from any memory with zero counters: every fair execution ends, with each
    device's result `FIN`, the arguments unchanged and every semaphore at zero. -/
theorem run_main : θ_run defs (onTc (τ := τ) (main (F := F))) ⟨m, fun _ => 0, ρ⟩ (fun r =>
    (∀ c : Dev nD, r.2.mem ((c : Thread nD τ).loc main_v1) = FIN m c
      ∧ r.2.mem ((c : Thread nD τ).loc main_arg0) = m ((c : Thread nD τ).loc main_arg0) ∧ r.2.mem ((c : Thread nD τ).loc main_arg1) = m ((c : Thread nD τ).loc main_arg1))
      ∧ r.2.sem = fun _ => 0) :=
  (θ_run defs (onTc (τ := τ) (main (F := F))) _).mono
    (fun _ h => ⟨fun c => ⟨((h.1 c).1 (0 : Fin 1)).trans (result_eq m ρ c), (h.1 c).2⟩, h.2⟩) (run_arrays m ρ)

end Cert.KP
-- ==== Proof.Value.lean ====
/-
  The value over the extended reals: what the kernel leaves on device `c` is block `c` of `y / (1 + exp (-y))`, `y` the
  whole product.
-/
module

public import proofs.«01_k».proof.Proof.Launch
public import Idealize.ShloMosaic.Lib.MatmulPlain
public import Idealize.ShloMosaic.Lib.StackMember
public import Idealize.ShloMosaic.Lib.IdealHost
public import Idealize.ShloMosaic.Lib.Layout

@[expose] public section

noncomputable section

namespace Cert.KP

open Cert.KernelIdeal Cert.KernelIdeal.Gen
open Idealize.ShloMosaic
open Idealize.ShloMosaic.TcCoe

/-! ## The payloads at an index -/

/-- A row block of `w` without its axis of size one. -/
theorem inner (b : S1x512x2048.Idx → EReal) (k : Fin 512) (j : Fin 2048) :
    shapeCast S512x2048 b shapeCasts_S1x512x2048_S512x2048 (ix2 k j) = b (ix3 0 k j) := by
  refine congrArg b ((Shape.reshapeEquiv_cons_one _ _).trans ?_)
  refine Shape.idx3_ext ?_ ?_ ?_ <;> rfl

/-- The product of a whole block at an index. -/
theorem big_product (a : S512x512.Idx → EReal) (b : S1x512x2048.Idx → EReal) (i : Fin 512) (j : Fin 2048) :
    FloatOps.matmul (F := Ideal) (φ₁ := .f32) (φ₂ := .f32) dot_S512x512_S512x2048_S512x2048_1_0_0_1_n_n none a (shapeCast S512x2048 b shapeCasts_S1x512x2048_S512x2048)
      (constant (F := Ideal) S512x2048 .f32 0x00000000#32) (ix2 i j) = ∑ k : Fin 512, a (ix2 i k) * b (ix3 0 k j) := by
  refine (Idealize.ShloMosaic.Ideal.matmul_plain_apply (M := 512) (K := 512) (N := 2048) none a _ _ i j).trans ?_
  rw [show constant (F := Ideal) S512x2048 .f32 0x00000000#32 (ValueIdx.ix2 i j) = (0 : EReal) from Ideal.ofBits_zero_f32, zero_add]
  exact Finset.sum_congr rfl fun k _ => congrArg (a (ix2 i k) * ·) (inner b k j)

/-- The product of a half block at an index. -/
theorem small_product (a : S256x512.Idx → EReal) (b : S1x512x2048.Idx → EReal) (i : Fin 256) (j : Fin 2048) :
    FloatOps.matmul (F := Ideal) (φ₁ := .f32) (φ₂ := .f32) dot_S256x512_S512x2048_S256x2048_1_0_0_1_n_n none a (shapeCast S512x2048 b shapeCasts_S1x512x2048_S512x2048)
      (constant (F := Ideal) S256x2048 .f32 0x00000000#32) (ix2 i j) = ∑ k : Fin 512, a (ix2 i k) * b (ix3 0 k j) := by
  refine (Idealize.ShloMosaic.Ideal.matmul_plain_apply (M := 256) (K := 512) (N := 2048) none a _ _ i j).trans ?_
  rw [show constant (F := Ideal) S256x2048 .f32 0x00000000#32 (ValueIdx.ix2 i j) = (0 : EReal) from Ideal.ofBits_zero_f32, zero_add]
  exact Finset.sum_congr rfl fun k _ => congrArg (a (ix2 i k) * ·) (inner b k j)

/-- The first product at an index. -/
theorem first_apply (a : S512x512.Idx → EReal) (b : S1x512x2048.Idx → EReal) (i : Fin 512) (j : Fin 2048) :
    k0_pay6 (F := Ideal) a b (ix2 i j) = ∑ k : Fin 512, a (ix2 i k) * b (ix3 0 k j) := big_product a b i j

/-- The running sum with one product more, at an index. -/
theorem next_apply (o : S512x2048.Idx → EReal) (a : S512x512.Idx → EReal) (b : S1x512x2048.Idx → EReal) (i : Fin 512) (j : Fin 2048) :
    k0_pay8 (F := Ideal) o a b (ix2 i j) = o (ix2 i j) + ∑ k : Fin 512, a (ix2 i k) * b (ix3 0 k j) := by
  refine Eq.trans (b := shapeCast S512x2048 o shapeCasts_S512x2048_S512x2048 (ix2 i j) + _) rfl ?_
  rw [cast_same]
  exact congrArg (o (ix2 i j) + ·) (big_product a b i j)

/-- `y` times its logistic. -/
def gated (y : EReal) : EReal := y * Ideal.logistic y

/-- The finished upper half at an index. -/
theorem upper_apply (o : S256x2048.Idx → EReal) (a : S256x512.Idx → EReal) (b : S1x512x2048.Idx → EReal) (i : Fin 256) (j : Fin 2048) :
    k0_pay18 (F := Ideal) o a b (ix2 i j) = gated (o (ix2 i j) + ∑ k : Fin 512, a (ix2 i k) * b (ix3 0 k j)) := by
  refine Eq.trans (b := gated (shapeCast S256x2048 o shapeCasts_S256x2048_S256x2048 (ix2 i j) + _)) rfl ?_
  rw [cast_same]
  exact congrArg (fun z => gated (o (ix2 i j) + z)) (small_product a b i j)

/-- The finished lower half at an index. -/
theorem lower_apply (o : S256x2048.Idx → EReal) (a : S256x512.Idx → EReal) (b : S1x512x2048.Idx → EReal) (i : Fin 256) (j : Fin 2048) :
    k0_pay19 (F := Ideal) o a b (ix2 i j) = gated (o (ix2 i j) + ∑ k : Fin 512, a (ix2 i k) * b (ix3 0 k j)) := upper_apply o a b i j

/-! ## The running sum -/

variable (m : (ℓ : Loc nD τ sig) → Buf (Elt Ideal) ℓ)

/-- Device `b`'s part of the product: its columns of `x` against its rows of `w` as device `c` holds them. -/
def part (c b : Dev nD) (i : Fin 4096) (j : Fin 2048) : EReal :=
  ∑ k : Fin 512, XV m b (ix2 i k) * WV m c (ix2 ⟨512 * b.val + k.val, by have := val_lt b; have := k.isLt; omega⟩ j)

/-- Row `i` of block `c` of the whole rows. -/
def row (c : Dev nD) (i : Fin 512) : Fin 4096 := ⟨512 * c.val + i.val, by have := val_lt c; have := i.isLt; omega⟩

/-- Row `i` of slot `s` is row `i` of the device's block of the `x` of the device `s` places back. -/
theorem landed (c : Dev nD) (s : ℕ) (hs : s < 8) (i : Fin 512) (k : Fin 512) (r : Fin 4096) (hr : r.val = 512 * s + i.val) :
    CM m c (ix2 r k) = XV m (dn c s) (ix2 (row c i) k) := by
  have h1 : r.val / 512 = s := by have := i.isLt; omega
  have h2 : r.val % 512 = i.val := by have := i.isLt; omega
  refine Eq.trans (b := XV m (dn c (r.val / 512)) (ix2 ⟨512 * c.val + r.val % 512, _⟩ k)) rfl ?_
  rw [h1]
  exact congrArg (fun q => XV m (dn c s) (ix2 q k)) (Fin.ext (by show _ = 512 * c.val + i.val; rw [← h2]))

/-- The running sum after `s` blocks at an index: the parts of the devices up to `s` places back. -/
theorem sum_apply (c : Dev nD) (i : Fin 512) (j : Fin 2048) : ∀ s : ℕ, s < 7 →
    OUT m c s (ix2 i j) = ∑ t ∈ Finset.range (s + 1), part m c (dn c t) (row c i) j
  | 0, _ => by
    rw [Finset.sum_range_one, dn_zero]
    exact first_apply _ _ i j
  | s + 1, h => by
    rw [Finset.sum_range_succ, ← sum_apply c i j s (by omega)]
    refine (next_apply _ _ _ i j).trans (congrArg (OUT m c s (ix2 i j) + ·) (Finset.sum_congr rfl fun k _ => ?_))
    refine congrArg (· * _) ?_
    exact landed m c (s + 1) (by omega) i k _ (by show 512 * ((s + 1) % 8) + i.val = _; rw [Nat.mod_eq_of_lt (by omega)])

/-- What the kernel leaves at row `i`, column `j` of device `c`. -/
theorem fin_apply (c : Dev nD) (i : Fin 512) (j : Fin 2048) :
    FIN m c (ix2 i j) = gated (∑ b : Dev nD, part m c b (row c i) j) := by
  have hsum : ∑ b : Dev nD, part m c b (row c i) j = ∑ t ∈ Finset.range 8, part m c (dn c t) (row c i) j := by
    rw [← Equiv.sum_comp (dnE c), Finset.sum_range fun t => part m c (dn c t) (row c i) j]
    rfl
  rw [hsum, Finset.sum_range_succ, ← sum_apply m c i j 6 (by omega)]
  have hlast (h : Fin 2) (q : Fin 256) (hq : i.val = 256 * h.val + q.val) :
      outh m c h (ix2 q j) + ∑ k : Fin 512, cmh m c h (ix2 q k) * wv m c (dn c 7) (ix3 0 k j) = OUT m c 6 (ix2 i j) + part m c (dn c 7) (row c i) j := by
    refine congrArg₂ (· + ·) (congrArg (fun r => OUT m c 6 (ix2 r j)) (Fin.ext hq.symm)) (Finset.sum_congr rfl fun k _ => congrArg (· * _) ?_)
    exact landed m c 7 (by omega) i k _ (by show 3584 + 256 * h.val + q.val = _; omega)
  have hi := i.isLt
  by_cases h : i.val < 256
  · refine Eq.trans (b := finh m c 0 (ix2 ⟨i.val, h⟩ j)) ?_ ((upper_apply _ _ _ _ j).trans (congrArg gated (hlast 0 ⟨i.val, h⟩ (by simp))))
    unfold FIN
    exact congr (congrArg (finh m c) (Fin.ext (by show i.val / 256 = 0; omega))) (congrArg (fun r => ix2 r j) (Fin.ext (by show i.val % 256 = i.val; omega)))
  · refine Eq.trans (b := finh m c 1 (ix2 ⟨i.val - 256, by omega⟩ j)) ?_ ((lower_apply _ _ _ _ j).trans (congrArg gated (hlast 1 ⟨i.val - 256, by omega⟩ (by simp; omega))))
    unfold FIN
    exact congr (congrArg (finh m c) (Fin.ext (by show i.val / 256 = 1; omega))) (congrArg (fun r => ix2 r j) (Fin.ext (by show i.val % 256 = i.val - 256; omega)))

/-! ## The whole product -/

/-- The whole product at row `i`, column `j`. -/
def prod (X : (⟨2, ![4096, 4096]⟩ : Shape).Idx → EReal) (W : (⟨2, ![4096, 2048]⟩ : Shape).Idx → EReal) (i : Fin 4096) (j : Fin 2048) : EReal :=
  ∑ k : Fin 4096, X (ix2 i k) * W (ix2 k j)

/-- The device's part read off the whole arrays. -/
theorem part_eq (X : (⟨2, ![4096, 4096]⟩ : Shape).Idx → EReal) (W : (⟨2, ![4096, 2048]⟩ : Shape).Idx → EReal)
    (hX : ∀ c : Dev nD, XV m c = Layout.block ⟨2, ![4096, 512]⟩ ⟨2, ![4096, 4096]⟩ 1 8 c X) (hW : ∀ c : Dev nD, WV m c = W) (c b : Dev nD) (i : Fin 4096) (j : Fin 2048) :
    part m c b i j = ∑ k : Fin 512, X (ix2 i ⟨512 * b.val + k.val, by have := val_lt b; have := k.isLt; omega⟩)
      * W (ix2 ⟨512 * b.val + k.val, by have := val_lt b; have := k.isLt; omega⟩ j) := by
  unfold part
  refine Finset.sum_congr rfl fun k _ => ?_
  rw [hX, hW, Layout.block_apply]
  refine congrArg (X · * _) (Shape.idx_ext₂ rfl ?_)
  show b.val * 512 + k.val = 512 * b.val + k.val
  omega

/-- The eight parts add up to the whole product. -/
theorem parts_sum (X : (⟨2, ![4096, 4096]⟩ : Shape).Idx → EReal) (W : (⟨2, ![4096, 2048]⟩ : Shape).Idx → EReal)
    (hX : ∀ c : Dev nD, XV m c = Layout.block ⟨2, ![4096, 512]⟩ ⟨2, ![4096, 4096]⟩ 1 8 c X) (hW : ∀ c : Dev nD, WV m c = W) (c : Dev nD) (i : Fin 4096) (j : Fin 2048) :
    ∑ b : Dev nD, part m c b i j = prod X W i j := by
  rw [Finset.sum_congr rfl fun b _ => part_eq m X W hX hW c b i j]
  unfold prod
  rw [← Equiv.sum_comp (finProdFinEquiv : Fin 8 × Fin 512 ≃ Fin 4096), Fintype.sum_prod_type]
  refine Finset.sum_congr rfl fun b _ => Finset.sum_congr rfl fun k _ => ?_
  have h : (finProdFinEquiv (b, k) : Fin 4096) = ⟨512 * b.val + k.val, by have := val_lt b; have := k.isLt; omega⟩ := Fin.ext (Nat.add_comm k.val (512 * b.val))
  rw [h]

/-- Device `c`'s result is block `c` of the gated product. -/
theorem fin_block (X : (⟨2, ![4096, 4096]⟩ : Shape).Idx → EReal) (W : (⟨2, ![4096, 2048]⟩ : Shape).Idx → EReal)
    (hX : ∀ c : Dev nD, XV m c = Layout.block ⟨2, ![4096, 512]⟩ ⟨2, ![4096, 4096]⟩ 1 8 c X) (hW : ∀ c : Dev nD, WV m c = W) (c : Dev nD) :
    FIN m c = Layout.block ⟨2, ![512, 2048]⟩ ⟨2, ![4096, 2048]⟩ 0 8 c fun q => gated (prod X W (q 0) (q 1)) := by
  funext q
  obtain ⟨i, j, rfl⟩ : ∃ i j, q = ix2 i j := ⟨_, _, eq_ix2 q⟩
  rw [fin_apply, parts_sum m X W hX hW, Layout.block_apply]
  refine congrArg gated (congrArg₂ (prod X W) (Fin.ext ?_) rfl)
  show 512 * c.val + i.val = c.val * 512 + i.val
  omega

/-! ## The gate as a quotient -/

/-- The quotient's divisor is not zero. -/
theorem one_add_exp_ne (y : EReal) : (1 : EReal) + Ideal.exp y ≠ 0 := by
  have h : (0 : EReal) ≤ Ideal.exp y := by
    induction y with
    | bot => exact le_rfl
    | top => exact le_top
    | coe r => exact EReal.coe_nonneg.mpr (Real.exp_pos r).le
  exact (lt_of_lt_of_le zero_lt_one (le_add_of_nonneg_right h)).ne'

/-- `y` times its logistic is `y / (1 + exp (-y))`. -/
theorem gated_eq (y : EReal) : gated y = Ideal.div y (1 + Ideal.exp (-y)) := by
  unfold gated Ideal.logistic Ideal.div
  rw [if_neg (one_add_exp_ne _), if_neg (one_add_exp_ne _), one_mul]

end Cert.KP
-- ==== Proof.Claims.lean ====
/-
  The two value claims: the two references read at an index, and the precondition read as bounds on each device's part of
  the product.
-/
module

public import proofs.«01_k».proof.Defs
public import proofs.«01_k».proof.Proof.Value
public import proofs.«01_k».proof.Proof.Gen.Kernel
public import proofs.«01_k».proof.Proof.Gen.ReferenceIdeal.Run
public import proofs.«01_k».proof.Proof.Gen.UnclippedIdeal.Run
public import proofs.«01_k».proof.Proof.Gen.Pre_bounded_KernelIdeal

@[expose] public section

noncomputable section

namespace Cert.KP

open Cert.KernelIdeal Cert.KernelIdeal.Gen
open Idealize.ShloMosaic Idealize.SL.Sem
open Idealize.ShloMosaic.TcCoe

/-! ## The references at an index -/

/-- The whole `x`. -/
abbrev WholeX : Shape := ⟨2, ![4096, 4096]⟩
/-- The whole `w`, and the whole result. -/
abbrev WholeY : Shape := ⟨2, ![4096, 2048]⟩

variable (X : WholeX.Idx → EReal) (W : WholeY.Idx → EReal)

/-- The host's product at row `i`, column `j`. -/
theorem host_product (d : DotDims WholeX WholeY WholeY) (hd : d = DotDims.plain 4096 4096 2048) (i : Fin 4096) (j : Fin 2048) :
    Host.dotGeneral (F := Ideal) (φ₁ := .f32) (φ₂ := .f32) d none X W (ix2 i j) = prod X W i j := by
  subst hd
  exact StackMember.dotGeneral_plain_apply (m := 4096) (n := 2048) (k := 4096) (φ₁ := .f32) (φ₂ := .f32) none X W i j

/-- The value without the clip at an index, `Y` the product. -/
theorem unclipped_apply (Y : WholeY.Idx → EReal) (h : S_.BroadcastsInDim WholeY (![] : Fin 0 → Fin WholeY.rank)) (q : WholeY.Idx) :
    Host.divf (F := Ideal) (φ := .f32) Y (addf (broadcastInDim WholeY ![] h (constant (F := Ideal) S_ .f32 0x3F800000#32)) (Host.exp (Host.negf Y))) q
      = Ideal.div (Y q) (1 + Ideal.exp (-(Y q))) := by
  refine Eq.trans (b := Ideal.div (Y q) (Ideal.ofBits .f32 0x3F800000#32 + Ideal.exp (-(Y q)))) rfl ?_
  rw [Ideal.ofBits_one_f32]

/-- The word of 60. -/
theorem bits_hi : Ideal.ofBits .f32 0x42700000#32 = ((60 : ℝ) : EReal) := by
  simp [Ideal.ofBits, Ideal.ieee, -EReal.coe_mul]; norm_num

/-- The word of -60. -/
theorem bits_lo : Ideal.ofBits .f32 0xC2700000#32 = ((-60 : ℝ) : EReal) := by
  simp [Ideal.ofBits, Ideal.ieee, -EReal.coe_mul, -EReal.coe_neg]; norm_num

/-- The word of 7.5. -/
theorem bits_part_hi : Ideal.ofBits .f32 0x40F00000#32 = ((7.5 : ℝ) : EReal) := by
  simp [Ideal.ofBits, Ideal.ieee, -EReal.coe_mul]; norm_num

/-- The word of -7.5. -/
theorem bits_part_lo : Ideal.ofBits .f32 0xC0F00000#32 = ((-7.5 : ℝ) : EReal) := by
  simp [Ideal.ofBits, Ideal.ieee, -EReal.coe_mul, -EReal.coe_neg]; norm_num

/-- The reference's value at an index, where the clip changes nothing. -/
theorem clipped_apply (Y : WholeY.Idx → EReal) (h : S_.BroadcastsInDim WholeY (![] : Fin 0 → Fin WholeY.rank)) (q : WholeY.Idx)
    (hlo : ((-60 : ℝ) : EReal) ≤ Y q) (hhi : Y q ≤ ((60 : ℝ) : EReal)) :
    Host.divf (F := Ideal) (φ := .f32) Y (addf (broadcastInDim WholeY ![] h (constant (F := Ideal) S_ .f32 0x3F800000#32))
        (Host.exp (Host.negf (minimumf (broadcastInDim WholeY ![] h (id (constant (F := Ideal) S_ .f32 0x42700000#32)))
          (maximumf (broadcastInDim WholeY ![] h (id (constant (F := Ideal) S_ .f32 0xC2700000#32))) Y))))) q
      = Ideal.div (Y q) (1 + Ideal.exp (-(Y q))) := by
  refine Eq.trans (b := Ideal.div (Y q) (Ideal.ofBits .f32 0x3F800000#32
    + Ideal.exp (-(min (Ideal.ofBits .f32 0x42700000#32) (max (Ideal.ofBits .f32 0xC2700000#32) (Y q)))))) rfl ?_
  rw [Ideal.ofBits_one_f32, bits_hi, bits_lo, max_eq_right hlo, min_eq_right hhi]

/-! ## The precondition -/

/-- The eight row blocks of `w` at block `b`, row `k`. -/
theorem eighth (w : S4096x2048.Idx → EReal) (h : S4096x2048.ShapeCasts Cert.Pre_bounded_KernelIdeal.S8x512x2048) (b : Fin 8) (k : Fin 512) (j : Fin 2048) :
    shapeCast Cert.Pre_bounded_KernelIdeal.S8x512x2048 w h (ix3 b k j) = w (ix2 ⟨512 * b.val + k.val, by omega⟩ j) := by
  refine congrArg w (Shape.reshapeEquiv_eq_of_rowMajor h ?_)
  rw [Shape.rowMajor_val_two, Shape.rowMajor_val_three]
  show (512 * b.val + k.val) * 2048 + j.val = (b.val * 512 + k.val) * 2048 + j.val
  omega

/-- The precondition's product at an index. -/
theorem pre_product (x : S4096x512.Idx → EReal) (u : Cert.Pre_bounded_KernelIdeal.S8x512x2048.Idx → EReal) (i : Fin 4096) (b : Fin 8) (j : Fin 2048) :
    Host.dotGeneral (F := Ideal) (φ₁ := .f32) (φ₂ := .f32) Cert.Pre_bounded_KernelIdeal.dot_S4096x512_S8x512x2048_S4096x8x2048_1_1_0_02_n_n none x u (ix3 i b j)
      = ∑ k : Fin 512, x (ix2 i k) * u (ix3 b k j) := by
  refine (Ideal.dotGeneral_apply (φ₁ := .f32) (φ₂ := .f32) _ none _ x u (ix3 i b j)).trans ?_
  rw [← Equiv.sum_comp (ValueIdx.contrEquiv1 Cert.Pre_bounded_KernelIdeal.dot_S4096x512_S8x512x2048_S4096x8x2048_1_1_0_02_n_n 512 rfl rfl).symm]
  refine Finset.sum_congr rfl fun k _ => ?_
  have hk := ValueIdx.contrEquiv1_symm_val Cert.Pre_bounded_KernelIdeal.dot_S4096x512_S8x512x2048_S4096x8x2048_1_1_0_02_n_n 512 rfl rfl k
  refine congrArg₂ (fun p q => x p * u q) (Shape.idx_ext₂ rfl hk) (Shape.idx3_ext rfl hk rfl)

/-- A conjunction of truth bits that is one has its first true. -/
theorem le_of_word {p : Prop} [Decidable p] {v : BitVec 1} (h : BitVec.ofBool (decide p) &&& v = 1#1) : p := by
  by_contra hp
  rw [decide_eq_false hp] at h
  revert h v
  decide

/-- And its second. -/
theorem le_of_word' {p : Prop} [Decidable p] {v : BitVec 1} (h : v &&& BitVec.ofBool (decide p) = 1#1) : p := le_of_word ((BitVec.and_comm _ _).trans h)

variable (m : (ℓ : Loc nD τ sig) → Buf (Elt Ideal) ℓ)

/-- Under the precondition every device's part of the product lies within 60 / 8. -/
theorem part_bounds (hpre : Cert.Pre_KernelIdeal_bounded_KernelIdeal m) (hW : ∀ c : Dev nD, WV m c = W) (c b : Dev nD) (i : Fin 4096) (j : Fin 2048) :
    ((-7.5 : ℝ) : EReal) ≤ part m c b i j ∧ part m c b i j ≤ ((7.5 : ℝ) : EReal) := by
  have e : Cert.Pre_bounded_KernelIdeal.fn (F := Ideal) (XV m b) (WV m b) (ix3 i (b : Fin 8) j) = 1#1 := congrFun (hpre b) _
  have hv : Host.dotGeneral (F := Ideal) (φ₁ := .f32) (φ₂ := .f32) Cert.Pre_bounded_KernelIdeal.dot_S4096x512_S8x512x2048_S4096x8x2048_1_1_0_02_n_n none (XV m b)
      (shapeCast Cert.Pre_bounded_KernelIdeal.S8x512x2048 (WV m b) Cert.Pre_bounded_KernelIdeal.Gen.shapeCasts_S4096x2048_S8x512x2048) (ix3 i (b : Fin 8) j) = part m c b i j := by
    refine (pre_product _ _ i b j).trans (Finset.sum_congr rfl fun k _ => ?_)
    rw [eighth, hW b, ← hW c]
  rw [← hv, ← bits_part_lo, ← bits_part_hi]
  exact ⟨le_of_word e, le_of_word' e⟩

/-- Eight terms within 7.5 add up to within 60. -/
theorem eight_bounds (f : Dev nD → EReal) (h : ∀ b, ((-7.5 : ℝ) : EReal) ≤ f b ∧ f b ≤ ((7.5 : ℝ) : EReal)) :
    ((-60 : ℝ) : EReal) ≤ ∑ b, f b ∧ ∑ b, f b ≤ ((60 : ℝ) : EReal) := by
  have hc (r : ℝ) (v : ℝ) (hv : v = 8 * r) : ∑ _b : Dev nD, ((r : ℝ) : EReal) = ((v : ℝ) : EReal) := by
    rw [Finset.sum_const, ← EReal.coe_nsmul, hv]
    refine congrArg _ ?_
    rw [show (Finset.univ : Finset (Dev nD)).card = 8 from rfl, nsmul_eq_mul]
    norm_num
  exact ⟨(hc (-7.5) (-60) (by norm_num)) ▸ Finset.sum_le_sum fun b _ => (h b).1, (hc 7.5 60 (by norm_num)) ▸ Finset.sum_le_sum fun b _ => (h b).2⟩

/-! ## The claims -/

/-- The frame over any floats: the run with the values dropped. -/
theorem frame_ideal_at {F : FTy → Type} [FloatOps F] (m : (ℓ : Loc nD τ sig) → Buf (Elt F) ℓ) (ρ : Dev nD → PrngReg) :
    θ_run (Cert.KernelIdeal.defs (F := F)) (onTc (τ := τ) (Cert.KernelIdeal.main (F := F))) ⟨m, fun _ => 0, ρ⟩ (fun r => (∀ c : Dev nD,
      r.2.mem ((c.tc : Thread nD τ).loc main_arg0) = m ((c.tc : Thread nD τ).loc main_arg0) ∧ r.2.mem ((c.tc : Thread nD τ).loc main_arg1) = m ((c.tc : Thread nD τ).loc main_arg1))
      ∧ r.2.sem = fun _ => 0) :=
  (θ_run Cert.KernelIdeal.defs _ _).mono (fun _ h => ⟨fun c => (h.1 c).2, h.2⟩) (run_main m ρ)

/-- The program and its idealization have one text: their body tables are equal. -/
theorem tables_eq : @Cert.Kernel.defs₀ Bits _ _ = @Cert.KernelIdeal.defs₀ Bits _ _ := by
  unfold Cert.Kernel.defs₀ Cert.KernelIdeal.defs₀
  refine congrArg Defs.onTc (funext fun l => funext fun q => ?_)
  match l, q with
  | 0, (t, s) => rfl

/-- So are their tables with the pipeline's functions. -/
theorem defs_eq : @Cert.Kernel.defs Bits _ _ = @Cert.KernelIdeal.defs Bits _ _ := congrArg (Pipeline.defs Cert.KernelIdeal.pcfgs) tables_eq

/-- The program runs at bit patterns: the theorem over any floats, read there. -/
theorem frame_kernel : Cert.quiescent_Kernel := fun m ρ _ => by
  rw [defs_eq]
  exact frame_ideal_at (F := Bits) m ρ

/-- The ideal program's frame. -/
theorem frame_ideal : Cert.quiescent_KernelIdeal := fun m ρ _ => frame_ideal_at (F := Ideal) m ρ

/-- The reference's frame: it has no semaphores. -/
theorem frame_reference : Cert.quiescent_ReferenceIdeal := fun m ρ _ =>
  (θ_run Cert.ReferenceIdeal.defs _ _).mono (fun r h => ⟨fun c => (h c).2, sem_eq_zero_of_no_sems (by decide) r.2⟩) (Cert.ReferenceIdeal.Value.run (F := Ideal) m ρ)

/-- The frame of the reference without the clip: it has no semaphores. -/
theorem frame_unclipped : Cert.quiescent_UnclippedIdeal := fun m ρ _ =>
  (θ_run Cert.UnclippedIdeal.defs _ _).mono (fun r h => ⟨fun c => (h c).2, sem_eq_zero_of_no_sems (by decide) r.2⟩) (Cert.UnclippedIdeal.Value.run (F := Ideal) m ρ)

/-- The kernel leaves its blocks of `y / (1 + exp (-y))`. -/
theorem value_unclipped : Cert.algebraic_KernelIdeal_UnclippedIdeal := by
  intro m ρ m' ρ' _ hm
  refine ⟨_, (θ_run Cert.KernelIdeal.defs _ _).mono (fun r h c => ⟨(h.1 c).1.trans ?_, (h.1 c).2⟩) (run_main (F := Ideal) m ρ),
    (θ_run Cert.UnclippedIdeal.defs _ _).mono (fun r h => h 0) (Cert.UnclippedIdeal.Value.run (F := Ideal) m' ρ')⟩
  refine (fin_block m _ _ (fun c => (hm c).1) (fun c => (hm c).2) c).trans (congrArg (fun v : WholeY.Idx → EReal => Layout.block ⟨2, ![512, 2048]⟩ WholeY 0 8 c v) (funext fun q => ?_))
  obtain ⟨i, j, rfl⟩ : ∃ i j, q = ix2 i j := ⟨_, _, eq_ix2 q⟩
  refine ((unclipped_apply _ _ _).trans ?_).symm
  exact (gated_eq _).symm.trans (congrArg gated (host_product _ _ _ rfl i j))

/-- Where the precondition holds they are its blocks of the reference's result, clip and all. -/
theorem value_reference : Cert.algebraic_KernelIdeal_ReferenceIdeal_pre_bounded_KernelIdeal := by
  intro m ρ m' ρ' hpre hm
  refine ⟨_, (θ_run Cert.KernelIdeal.defs _ _).mono (fun r h c => ⟨(h.1 c).1.trans ?_, (h.1 c).2⟩) (run_main (F := Ideal) m ρ),
    (θ_run Cert.ReferenceIdeal.defs _ _).mono (fun r h => h 0) (Cert.ReferenceIdeal.Value.run (F := Ideal) m' ρ')⟩
  refine (fin_block m _ _ (fun c => (hm c).1) (fun c => (hm c).2) c).trans (congrArg (fun v : WholeY.Idx → EReal => Layout.block ⟨2, ![512, 2048]⟩ WholeY 0 8 c v) (funext fun q => ?_))
  obtain ⟨i, j, rfl⟩ : ∃ i j, q = ix2 i j := ⟨_, _, eq_ix2 q⟩
  have hb := eight_bounds _ fun b => part_bounds _ m hpre (fun c => (hm c).2) c b i j
  rw [parts_sum m _ _ (fun c => (hm c).1) (fun c => (hm c).2), ← host_product _ _ Cert.ReferenceIdeal.dot_S4096x4096_S4096x2048_S4096x2048_1_0_0_1_n_n rfl] at hb
  refine ((clipped_apply _ _ _ hb.1 hb.2).trans ?_).symm
  exact (gated_eq _).symm.trans (congrArg gated (host_product _ _ _ rfl i j))

end Cert.KP
-- ==== Proof.lean ====
/-
  The proof of `Cert.Claim`. The run of the kernel over any floats is `Proof/Launch.lean` (`run_main`), its value over the
  extended reals `Proof/Value.lean`, the claims one by one `Proof/Claims.lean`; here they are put together.
-/
module

public import proofs.«01_k».proof.Defs
public import proofs.«01_k».proof.Proof.Claims
public import proofs.«01_k».proof.Proof.Gen.Kernel
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.UnclippedIdeal
public import proofs.«01_k».proof.Proof.Gen.UnclippedIdeal.Run
public import proofs.«01_k».proof.Proof.Gen.Pre_bounded_KernelIdeal
public import proofs.«01_k».proof.Proof.Gen.Pre_bounded_ReferenceIdeal

@[expose] public section

noncomputable section

namespace Cert.Proof

/-- Every claim of the certificate: the frames, the kernel's idealization, and the two values. -/
theorem claim : Cert.Claim :=
  ⟨Cert.Kernel.Gen.facts, Cert.KernelIdeal.Gen.facts, Cert.ReferenceIdeal.Gen.facts, Cert.UnclippedIdeal.Gen.facts,
    Cert.Pre_bounded_KernelIdeal.Gen.facts, Cert.Pre_bounded_ReferenceIdeal.Gen.facts,
    Cert.KP.frame_kernel, Cert.KP.frame_ideal, fun m ρ _ => Cert.KP.frame_ideal m ρ trivial,
    Cert.KP.frame_reference, fun m ρ _ => Cert.KP.frame_reference m ρ trivial, Cert.KP.frame_unclipped,
    trivial, Cert.KP.value_reference, Cert.KP.value_unclipped⟩

end Cert.Proof

end
